-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S48x64x16x16 : Shape := ⟨4, ![48, 64, 16, 16]⟩
abbrev S1 : Shape := ⟨1, ![1]⟩
abbrev S1x256 : Shape := ⟨2, ![1, 256]⟩
abbrev S_ : Shape := ⟨0, ![]⟩

class Facts : Prop where
  bcast_S_S1 : S_.BroadcastsInDim S1 (![] : Fin 0 → Fin S1.rank)
  bcast_S_S1x256 : S_.BroadcastsInDim S1x256 (![] : Fin 0 → Fin S1x256.rank)

variable [Facts]

def fn {F : FTy → Type} [FloatOps F] (main_arg0 : FVec F S48x64x16x16 .f32) (main_arg1 : FVec F S48x64x16x16 .f32) (main_arg2 : FVec F S1 .f32) (main_arg3 : FVec F S1 .f32) (main_arg4 : FVec F S1x256 .f32) (main_arg5 : FVec F S1 .f32) (main_arg6 : FVec F S1 .f32) (main_arg7 : FVec F S1 .f32) : IVec S1 1 × IVec S1x256 1 :=
  let main_v0 : FVec F S1 .f32 := Host.absf main_arg3
  let main_cst : FVec F S_ .f32 := constant S_ .f32 0x7F800000#32
  let main_v1 : FVec F S1 .f32 := broadcastInDim S1 ![] bcast_S_S1 main_cst
  let main_v2 : IVec S1 1 := cmpf .olt main_v0 main_v1
  let main_v3 : FVec F S1x256 .f32 := Host.absf main_arg4
  let main_cst_0 : FVec F S_ .f32 := constant S_ .f32 0x7F800000#32
  let main_v4 : FVec F S1x256 .f32 := broadcastInDim S1x256 ![] bcast_S_S1x256 main_cst_0
  let main_v5 : IVec S1x256 1 := cmpf .olt main_v3 main_v4
  (main_v2, main_v5)
-- ==== Kernel.lean ====
abbrev S48x64x16x16 : Shape := ⟨4, ![48, 64, 16, 16]⟩
abbrev S1 : Shape := ⟨1, ![1]⟩
abbrev S1x256 : Shape := ⟨2, ![1, 256]⟩
abbrev S256x256 : Shape := ⟨2, ![256, 256]⟩
abbrev S48x64x256 : Shape := ⟨3, ![48, 64, 256]⟩
abbrev S5 : Shape := ⟨1, ![5]⟩
abbrev S1x5 : Shape := ⟨2, ![1, 5]⟩
abbrev S48x48 : Shape := ⟨2, ![48, 48]⟩
abbrev S1x64x256 : Shape := ⟨3, ![1, 64, 256]⟩
abbrev S12288x64 : Shape := ⟨2, ![12288, 64]⟩
abbrev S48x48x3 : Shape := ⟨3, ![48, 48, 3]⟩
abbrev S48x256x64 : Shape := ⟨3, ![48, 256, 64]⟩
abbrev S64x256 : Shape := ⟨2, ![64, 256]⟩
abbrev S1x256x256 : Shape := ⟨3, ![1, 256, 256]⟩
abbrev S4096x64 : Shape := ⟨2, ![4096, 64]⟩
abbrev S4096x256 : Shape := ⟨2, ![4096, 256]⟩
abbrev S16x256x256 : Shape := ⟨3, ![16, 256, 256]⟩
abbrev S16x256 : Shape := ⟨2, ![16, 256]⟩
abbrev S48x256 : Shape := ⟨2, ![48, 256]⟩
abbrev S48 : Shape := ⟨1, ![48]⟩
abbrev S48x1 : Shape := ⟨2, ![48, 1]⟩
abbrev S48x3 : Shape := ⟨2, ![48, 3]⟩
abbrev S1x48x3 : Shape := ⟨3, ![1, 48, 3]⟩
abbrev S48x48x1 : Shape := ⟨3, ![48, 48, 1]⟩
abbrev S1x1 : Shape := ⟨2, ![1, 1]⟩
abbrev S1x48x48 : Shape := ⟨3, ![1, 48, 48]⟩
abbrev S1x1x1 : Shape := ⟨3, ![1, 1, 1]⟩
abbrev S1x1x256 : Shape := ⟨3, ![1, 1, 256]⟩

abbrev nBuf : Space → Nat
  | .hbm => 15
  | .vmem => 9
  | .smem => 0
  | _ => 0

abbrev bufTy : (tb : Table) → Fin (tcTables nBuf tb) → BufTy
  | .hbm, ⟨0, _⟩ => ⟨S48x64x16x16, .f32⟩
  | .hbm, ⟨1, _⟩ => ⟨S48x64x16x16, .f32⟩
  | .hbm, ⟨2, _⟩ => ⟨S1, .f32⟩
  | .hbm, ⟨3, _⟩ => ⟨S1, .f32⟩
  | .hbm, ⟨4, _⟩ => ⟨S1x256, .f32⟩
  | .hbm, ⟨5, _⟩ => ⟨S1, .f32⟩
  | .hbm, ⟨6, _⟩ => ⟨S1, .f32⟩
  | .hbm, ⟨7, _⟩ => ⟨S1, .f32⟩
  | .hbm, ⟨8, _⟩ => ⟨S256x256, .f32⟩
  | .hbm, ⟨9, _⟩ => ⟨S48x64x256, .f32⟩
  | .hbm, ⟨10, _⟩ => ⟨S48x64x256, .f32⟩
  | .hbm, ⟨11, _⟩ => ⟨S256x256, .bf16⟩
  | .hbm, ⟨12, _⟩ => ⟨S5, .f32⟩
  | .hbm, ⟨13, _⟩ => ⟨S1x5, .f32⟩
  | .hbm, ⟨14, _⟩ => ⟨S48x48, .f32⟩
  | .local _ .vmem, ⟨0, _⟩ => ⟨S48x64x256, .f32⟩
  | .local _ .vmem, ⟨1, _⟩ => ⟨S1x64x256, .f32⟩
  | .local _ .vmem, ⟨2, _⟩ => ⟨S1x64x256, .f32⟩
  | .local _ .vmem, ⟨3, _⟩ => ⟨S1x256, .f32⟩
  | .local _ .vmem, ⟨4, _⟩ => ⟨S256x256, .bf16⟩
  | .local _ .vmem, ⟨5, _⟩ => ⟨S1x5, .f32⟩
  | .local _ .vmem, ⟨6, _⟩ => ⟨S48x48, .f32⟩
  | .local _ .vmem, ⟨7, _⟩ => ⟨S12288x64, .bf16⟩
  | .local _ .vmem, ⟨8, _⟩ => ⟨S48x48x3, .f32⟩
  | _, _ => ⟨S48x64x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![48], ![false]⟩

def k0_off1 (i : grid0.Coords) : Fin 3 → Nat :=
  let arg0 : BitVec 32 := BitVec.ofNat 32 (i 0).val
  let v60 : Index := Scalar.indexCast arg0
  let c0_22 : Index := 0#32
  let c0_23 : Index := 0#32
  ![v60.toNat, 0, 0]
def k0_cond2 (i : grid0.Coords) : BitVec 1 :=
  let arg0 : BitVec 32 := BitVec.ofNat 32 (i 0).val
  let c47_i32 : BitVec 32 := 47#32
  let v64 : BitVec 1 := Scalar.cmpi .eq arg0 c47_i32
  let v65 : BitVec 32 := Scalar.extui v64
  let c0_i32_24 : BitVec 32 := 0#32
  let v66 : BitVec 1 := Scalar.cmpi .ne v65 c0_i32_24
  v66

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S48x64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S48x64x16x16 : Shape := ⟨4, ![48, 64, 16, 16]⟩
abbrev S1 : Shape := ⟨1, ![1]⟩
abbrev S1x256 : Shape := ⟨2, ![1, 256]⟩
abbrev S16x4 : Shape := ⟨2, ![16, 4]⟩
abbrev S48x64x256 : Shape := ⟨3, ![48, 64, 256]⟩
abbrev S48x256x48x256 : Shape := ⟨4, ![48, 256, 48, 256]⟩
abbrev S48x48x256x256 : Shape := ⟨4, ![48, 48, 256, 256]⟩
abbrev S48x48x16x16x16x16 : Shape := ⟨6, ![48, 48, 16, 16, 16, 16]⟩
abbrev S16x48x48x16x16x16 : Shape := ⟨6, ![16, 48, 48, 16, 16, 16]⟩
abbrev S_ : Shape := ⟨0, ![]⟩
abbrev S16x4x1 : Shape := ⟨3, ![16, 4, 1]⟩
abbrev S1x1x1 : Shape := ⟨3, ![1, 1, 1]⟩
abbrev S16x48x48x4x16x16 : Shape := ⟨6, ![16, 48, 48, 4, 16, 16]⟩
abbrev S16x48x48x16 : Shape := ⟨4, ![16, 48, 48, 16]⟩
abbrev S48x48x16x16 : Shape := ⟨4, ![48, 48, 16, 16]⟩
abbrev S48x48x256 : Shape := ⟨3, ![48, 48, 256]⟩
abbrev S16x48x48x16x4x16 : Shape := ⟨6, ![16, 48, 48, 16, 4, 16]⟩
abbrev S48x48x512 : Shape := ⟨3, ![48, 48, 512]⟩
abbrev S4608x1x256 : Shape := ⟨3, ![4608, 1, 256]⟩
abbrev S4608x256 : Shape := ⟨2, ![4608, 256]⟩
abbrev S256x1 : Shape := ⟨2, ![256, 1]⟩
abbrev S4608x1 : Shape := ⟨2, ![4608, 1]⟩
abbrev S1x1 : Shape := ⟨2, ![1, 1]⟩
abbrev S2304x2 : Shape := ⟨2, ![2304, 2]⟩
abbrev S2304 : Shape := ⟨1, ![2304]⟩
abbrev S2304x1 : Shape := ⟨2, ![2304, 1]⟩
abbrev S48x48 : Shape := ⟨2, ![48, 48]⟩

abbrev nBuf : Space → Nat
  | .hbm => 179
  | .vmem => 0
  | .smem => 0
  | _ => 0

abbrev hbmTy0_0 (i : Nat) : BufTy := match i % 128 with
  | 0 => ⟨S48x64x16x16, .f32⟩
  | 1 => ⟨S48x64x16x16, .f32⟩
  | 2 => ⟨S1, .f32⟩
  | 3 => ⟨S1, .f32⟩
  | 4 => ⟨S1x256, .f32⟩
  | 5 => ⟨S1, .f32⟩
  | 6 => ⟨S1, .f32⟩
  | 7 => ⟨S1, .f32⟩
  | 8 => ⟨S16x4, .i32⟩
  | 9 => ⟨S48x64x256, .f32⟩
  | 10 => ⟨S48x64x256, .f32⟩
  | 11 => ⟨S48x256x48x256, .f32⟩
  | 12 => ⟨S48x48x256x256, .f32⟩
  | 13 => ⟨S48x48x16x16x16x16, .f32⟩
  | 14 => ⟨S16x48x48x16x16x16, .f32⟩
  | 15 => ⟨S_, .i32⟩
  | 16 => ⟨S16x4, .i32⟩
  | 17 => ⟨S16x4, .i1⟩
  | 18 => ⟨S_, .i32⟩
  | 19 => ⟨S16x4, .i32⟩
  | 20 => ⟨S16x4, .i32⟩
  | 21 => ⟨S16x4, .i32⟩
  | 22 => ⟨S16x4x1, .i32⟩
  | 23 => ⟨S1, .i32⟩
  | 24 => ⟨S_, .i32⟩
  | 25 => ⟨S16x4x1, .i32⟩
  | 26 => ⟨S16x4x1, .i1⟩
  | 27 => ⟨S1x1x1, .i32⟩
  | 28 => ⟨S16x4x1, .i32⟩
  | 29 => ⟨S16x4x1, .i1⟩
  | 30 => ⟨S16x4x1, .i1⟩
  | 31 => ⟨S_, .i1⟩
  | 32 => ⟨S16x4, .i1⟩
  | 33 => ⟨S16x48x48x4x16x16, .f32⟩
  | 34 => ⟨S16x48x48x4x16x16, .i1⟩
  | 35 => ⟨S_, .f32⟩
  | 36 => ⟨S16x48x48x4x16x16, .f32⟩
  | 37 => ⟨S16x48x48x4x16x16, .f32⟩
  | 38 => ⟨S_, .f32⟩
  | 39 => ⟨S16x48x48x16, .f32⟩
  | 40 => ⟨S48x48x16x16, .f32⟩
  | 41 => ⟨S48x48x256, .f32⟩
  | 42 => ⟨S16x48x48x16x16x16, .f32⟩
  | 43 => ⟨S_, .i32⟩
  | 44 => ⟨S16x4, .i32⟩
  | 45 => ⟨S16x4, .i1⟩
  | 46 => ⟨S_, .i32⟩
  | 47 => ⟨S16x4, .i32⟩
  | 48 => ⟨S16x4, .i32⟩
  | 49 => ⟨S16x4, .i32⟩
  | 50 => ⟨S16x4x1, .i32⟩
  | 51 => ⟨S1, .i32⟩
  | 52 => ⟨S_, .i32⟩
  | 53 => ⟨S16x4x1, .i32⟩
  | 54 => ⟨S16x4x1, .i1⟩
  | 55 => ⟨S1x1x1, .i32⟩
  | 56 => ⟨S16x4x1, .i32⟩
  | 57 => ⟨S16x4x1, .i1⟩
  | 58 => ⟨S16x4x1, .i1⟩
  | 59 => ⟨S_, .i1⟩
  | 60 => ⟨S16x4, .i1⟩
  | 61 => ⟨S16x48x48x16x4x16, .f32⟩
  | 62 => ⟨S16x48x48x16x4x16, .i1⟩
  | 63 => ⟨S_, .f32⟩
  | 64 => ⟨S16x48x48x16x4x16, .f32⟩
  | 65 => ⟨S16x48x48x16x4x16, .f32⟩
  | 66 => ⟨S_, .f32⟩
  | 67 => ⟨S16x48x48x16, .f32⟩
  | 68 => ⟨S48x48x16x16, .f32⟩
  | 69 => ⟨S48x48x256, .f32⟩
  | 70 => ⟨S48x48x512, .f32⟩
  | 71 => ⟨S4608x1x256, .f32⟩
  | 72 => ⟨S_, .f32⟩
  | 73 => ⟨S1, .f32⟩
  | 74 => ⟨S1x1x1, .f32⟩
  | 75 => ⟨S_, .f32⟩
  | 76 => ⟨S1x1x1, .f32⟩
  | 77 => ⟨S1x1x1, .f32⟩
  | 78 => ⟨S_, .i32⟩
  | 79 => ⟨S_, .f32⟩
  | 80 => ⟨S1, .f32⟩
  | 81 => ⟨S1x1x1, .f32⟩
  | 82 => ⟨S_, .f32⟩
  | 83 => ⟨S1x1x1, .f32⟩
  | 84 => ⟨S1x1x1, .f32⟩
  | 85 => ⟨S4608x1x256, .f32⟩
  | 86 => ⟨S4608x1x256, .f32⟩
  | 87 => ⟨S4608x1x256, .f32⟩
  | 88 => ⟨S_, .f32⟩
  | 89 => ⟨S_, .f32⟩
  | 90 => ⟨S_, .f32⟩
  | 91 => ⟨S_, .f32⟩
  | 92 => ⟨S1, .f32⟩
  | 93 => ⟨S1x1x1, .f32⟩
  | 94 => ⟨S1x1x1, .f32⟩
  | 95 => ⟨S1x1x1, .f32⟩
  | 96 => ⟨S_, .f32⟩
  | 97 => ⟨S_, .i1⟩
  | 98 => ⟨S_, .f32⟩
  | 99 => ⟨S_, .f32⟩
  | 100 => ⟨S1x1x1, .f32⟩
  | 101 => ⟨S1x1x1, .f32⟩
  | 102 => ⟨S4608x1x256, .f32⟩
  | 103 => ⟨S4608x1x256, .f32⟩
  | 104 => ⟨S1x1x1, .f32⟩
  | 105 => ⟨S4608x1x256, .f32⟩
  | 106 => ⟨S4608x1x256, .f32⟩
  | 107 => ⟨S_, .f32⟩
  | 108 => ⟨S1x1x1, .f32⟩
  | 109 => ⟨S1x1x1, .f32⟩
  | 110 => ⟨S1x1x1, .f32⟩
  | 111 => ⟨S4608x1x256, .f32⟩
  | 112 => ⟨S4608x1x256, .f32⟩
  | 113 => ⟨S1x1x1, .f32⟩
  | 114 => ⟨S4608x1x256, .f32⟩
  | 115 => ⟨S4608x1x256, .f32⟩
  | 116 => ⟨S4608x256, .f32⟩
  | 117 => ⟨S256x1, .f32⟩
  | 118 => ⟨S4608x1, .f32⟩
  | 119 => ⟨S1x1, .f32⟩
  | 120 => ⟨S4608x1, .f32⟩
  | 121 => ⟨S4608x1, .f32⟩
  | 122 => ⟨S2304x2, .f32⟩
  | 123 => ⟨S_, .f32⟩
  | 124 => ⟨S2304, .f32⟩
  | 125 => ⟨S2304x1, .f32⟩
  | 126 => ⟨S_, .f32⟩
  | 127 => ⟨S1, .f32⟩
  | _ => ⟨S48x64x16x16, .f32⟩

abbrev hbmTy0_1 (i : Nat) : BufTy := match i % 128 with
  | 0 => ⟨S1x1, .f32⟩
  | 1 => ⟨S_, .f32⟩
  | 2 => ⟨S1x1, .f32⟩
  | 3 => ⟨S1x1, .f32⟩
  | 4 => ⟨S_, .i32⟩
  | 5 => ⟨S_, .f32⟩
  | 6 => ⟨S1, .f32⟩
  | 7 => ⟨S1x1, .f32⟩
  | 8 => ⟨S_, .f32⟩
  | 9 => ⟨S1x1, .f32⟩
  | 10 => ⟨S1x1, .f32⟩
  | 11 => ⟨S2304x1, .f32⟩
  | 12 => ⟨S2304x1, .f32⟩
  | 13 => ⟨S2304x1, .f32⟩
  | 14 => ⟨S_, .f32⟩
  | 15 => ⟨S_, .f32⟩
  | 16 => ⟨S_, .f32⟩
  | 17 => ⟨S_, .f32⟩
  | 18 => ⟨S1, .f32⟩
  | 19 => ⟨S1x1, .f32⟩
  | 20 => ⟨S1x1, .f32⟩
  | 21 => ⟨S1x1, .f32⟩
  | 22 => ⟨S_, .f32⟩
  | 23 => ⟨S_, .i1⟩
  | 24 => ⟨S_, .f32⟩
  | 25 => ⟨S_, .f32⟩
  | 26 => ⟨S1x1, .f32⟩
  | 27 => ⟨S1x1, .f32⟩
  | 28 => ⟨S2304x1, .f32⟩
  | 29 => ⟨S2304x1, .f32⟩
  | 30 => ⟨S1x1, .f32⟩
  | 31 => ⟨S2304x1, .f32⟩
  | 32 => ⟨S2304x1, .f32⟩
  | 33 => ⟨S_, .f32⟩
  | 34 => ⟨S1x1, .f32⟩
  | 35 => ⟨S1x1, .f32⟩
  | 36 => ⟨S1x1, .f32⟩
  | 37 => ⟨S2304x1, .f32⟩
  | 38 => ⟨S2304x1, .f32⟩
  | 39 => ⟨S1x1, .f32⟩
  | 40 => ⟨S2304x1, .f32⟩
  | 41 => ⟨S2304x1, .f32⟩
  | 42 => ⟨S2304x1, .f32⟩
  | 43 => ⟨S2304x1, .f32⟩
  | 44 => ⟨S_, .f32⟩
  | 45 => ⟨S2304x1, .f32⟩
  | 46 => ⟨S2304x1, .f32⟩
  | 47 => ⟨S_, .f32⟩
  | 48 => ⟨S2304x1, .f32⟩
  | 49 => ⟨S2304x1, .f32⟩
  | 50 => ⟨S48x48, .f32⟩
  | _ => ⟨S48x64x16x16, .f32⟩

abbrev hbmTy (i : Nat) : BufTy := match i / 128 with
  | 0 => hbmTy0_0 i
  | 1 => hbmTy0_1 i
  | _ => ⟨S48x64x16x16, .f32⟩

abbrev bufTy : (tb : Table) → Fin (tcTables nBuf tb) → BufTy
  | .hbm, ⟨i, _⟩ => hbmTy i
  | _, _ => ⟨S48x64x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v6 : Ref sig .tc := ⟨.hbm, 37, rfl⟩
abbrev main_cst : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v11 : Ref sig .tc := ⟨.hbm, 65, rfl⟩
abbrev main_cst_0 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_cst_1 : Ref sig .tc := ⟨.hbm, 72, rfl⟩
abbrev main_v17 : Ref sig .tc := ⟨.hbm, 73, rfl⟩
abbrev main_v18 : Ref sig .tc := ⟨.hbm, 74, rfl⟩
abbrev main_cst_2 : Ref sig .tc := ⟨.hbm, 75, rfl⟩
abbrev main_v19 : Ref sig .tc := ⟨.hbm, 76, rfl⟩
abbrev main_v20 : Ref sig .tc := ⟨.hbm, 77, rfl⟩
abbrev main_c_3 : Ref sig .tc := ⟨.hbm, 78, rfl⟩
abbrev main_call2_cst : Ref sig .tc := ⟨.hbm, 79, rfl⟩
abbrev main_call2_v0 : Ref sig .tc := ⟨.hbm, 80, rfl⟩
abbrev main_call2_v1 : Ref sig .tc := ⟨.hbm, 81, rfl⟩
abbrev main_call2_cst_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_v6 : Ref sig .tc := ⟨.hbm, 87, rfl⟩
abbrev main_call2_v7 : Ref sig .tc := ⟨.hbm, 88, rfl⟩
abbrev main_call2_cst_1 : Ref sig .tc := ⟨.hbm, 89, rfl⟩
abbrev main_call2_v8 : Ref sig .tc := ⟨.hbm, 90, rfl⟩
abbrev main_call2_cst_2 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_v12 : Ref sig .tc := ⟨.hbm, 95, rfl⟩
abbrev main_call2_cst_3 : Ref sig .tc := ⟨.hbm, 96, rfl⟩
abbrev main_call2_v13 : Ref sig .tc := ⟨.hbm, 97, rfl⟩
abbrev main_call2_cst_4 : Ref sig .tc := ⟨.hbm, 98, rfl⟩
abbrev main_call2_call0_v0 : Ref sig .tc := ⟨.hbm, 99, rfl⟩
abbrev main_call2_call0_v1 : Ref sig .tc := ⟨.hbm, 100, rfl⟩
abbrev main_v21 : Ref sig .tc := ⟨.hbm, 101, rfl⟩
abbrev main_v22 : Ref sig .tc := ⟨.hbm, 102, rfl⟩
abbrev main_v23 : Ref sig .tc := ⟨.hbm, 103, rfl⟩
abbrev main_v24 : Ref sig .tc := ⟨.hbm, 104, rfl⟩
abbrev main_v25 : Ref sig .tc := ⟨.hbm, 105, rfl⟩
abbrev main_v26 : Ref sig .tc := ⟨.hbm, 106, rfl⟩
abbrev main_cst_4 : Ref sig .tc := ⟨.hbm, 107, rfl⟩
abbrev main_v27 : Ref sig .tc := ⟨.hbm, 108, rfl⟩
abbrev main_v28 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_v35 : Ref sig .tc := ⟨.hbm, 116, rfl⟩
abbrev main_v36 : Ref sig .tc := ⟨.hbm, 117, rfl⟩
abbrev main_v37 : Ref sig .tc := ⟨.hbm, 118, rfl⟩
abbrev main_v38 : Ref sig .tc := ⟨.hbm, 119, rfl⟩
abbrev main_v39 : Ref sig .tc := ⟨.hbm, 120, rfl⟩
abbrev main_v40 : Ref sig .tc := ⟨.hbm, 121, rfl⟩
abbrev main_v41 : Ref sig .tc := ⟨.hbm, 122, rfl⟩
abbrev main_cst_5 : Ref sig .tc := ⟨.hbm, 123, rfl⟩
abbrev main_v42 : Ref sig .tc := ⟨.hbm, 124, rfl⟩
abbrev main_v43 : Ref sig .tc := ⟨.hbm, 125, rfl⟩
abbrev main_cst_6 : Ref sig .tc := ⟨.hbm, 126, rfl⟩
abbrev main_v44 : Ref sig .tc := ⟨.hbm, 127, rfl⟩
abbrev main_v45 : Ref sig .tc := ⟨.hbm, 128, rfl⟩
abbrev main_cst_7 : Ref sig .tc := ⟨.hbm, 129, rfl⟩
abbrev main_v46 : Ref sig .tc := ⟨.hbm, 130, rfl⟩
abbrev main_v47 : Ref sig .tc := ⟨.hbm, 131, rfl⟩
abbrev main_c_8 : Ref sig .tc := ⟨.hbm, 132, rfl⟩
abbrev main_call3_cst : Ref sig .tc := ⟨.hbm, 133, rfl⟩
abbrev main_call3_v0 : Ref sig .tc := ⟨.hbm, 134, rfl⟩
abbrev main_call3_v1 : Ref sig .tc := ⟨.hbm, 135, rfl⟩
abbrev main_call3_cst_0 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_call3_v5 : Ref sig .tc := ⟨.hbm, 140, rfl⟩
abbrev main_call3_v6 : Ref sig .tc := ⟨.hbm, 141, rfl⟩
abbrev main_call3_v7 : Ref sig .tc := ⟨.hbm, 142, rfl⟩
abbrev main_call3_cst_1 : Ref sig .tc := ⟨.hbm, 143, rfl⟩
abbrev main_call3_v8 : Ref sig .tc := ⟨.hbm, 144, rfl⟩
abbrev main_call3_cst_2 : Ref sig .tc := ⟨.hbm, 145, rfl⟩
abbrev main_call3_v9 : Ref sig .tc := ⟨.hbm, 146, rfl⟩
abbrev main_call3_v10 : Ref sig .tc := ⟨.hbm, 147, rfl⟩
abbrev main_call3_v11 : Ref sig .tc := ⟨.hbm, 148, rfl⟩
abbrev main_call3_v12 : Ref sig .tc := ⟨.hbm, 149, rfl⟩
abbrev main_call3_cst_3 : Ref sig .tc := ⟨.hbm, 150, rfl⟩
abbrev main_call3_v13 : Ref sig .tc := ⟨.hbm, 151, rfl⟩
abbrev main_call3_cst_4 : Ref sig .tc := ⟨.hbm, 152, rfl⟩
abbrev main_call3_call0_v0 : Ref sig .tc := ⟨.hbm, 153, rfl⟩
abbrev main_call3_call0_v1 : Ref sig .tc := ⟨.hbm, 154, rfl⟩
abbrev main_v48 : Ref sig .tc := ⟨.hbm, 155, rfl⟩
abbrev main_v49 : Ref sig .tc := ⟨.hbm, 156, rfl⟩
abbrev main_v50 : Ref sig .tc := ⟨.hbm, 157, rfl⟩
abbrev main_v51 : Ref sig .tc := ⟨.hbm, 158, rfl⟩
abbrev main_v52 : Ref sig .tc := ⟨.hbm, 159, rfl⟩
abbrev main_v53 : Ref sig .tc := ⟨.hbm, 160, rfl⟩
abbrev main_cst_9 : Ref sig .tc := ⟨.hbm, 161, rfl⟩
abbrev main_v54 : Ref sig .tc := ⟨.hbm, 162, rfl⟩
abbrev main_v55 : Ref sig .tc := ⟨.hbm, 163, rfl⟩
abbrev main_v56 : Ref sig .tc := ⟨.hbm, 164, rfl⟩
abbrev main_v57 : Ref sig .tc := ⟨.hbm, 165, rfl⟩
abbrev main_v58 : Ref sig .tc := ⟨.hbm, 166, rfl⟩
abbrev main_v59 : Ref sig .tc := ⟨.hbm, 167, rfl⟩
abbrev main_v60 : Ref sig .tc := ⟨.hbm, 168, rfl⟩
abbrev main_v61 : Ref sig .tc := ⟨.hbm, 169, rfl⟩
abbrev main_v62 : Ref sig .tc := ⟨.hbm, 170, rfl⟩
abbrev main_v63 : Ref sig .tc := ⟨.hbm, 171, rfl⟩
abbrev main_cst_10 : Ref sig .tc := ⟨.hbm, 172, rfl⟩
abbrev main_v64 : Ref sig .tc := ⟨.hbm, 173, rfl⟩
abbrev main_v65 : Ref sig .tc := ⟨.hbm, 174, rfl⟩
abbrev main_cst_11 : Ref sig .tc := ⟨.hbm, 175, rfl⟩
abbrev main_v66 : Ref sig .tc := ⟨.hbm, 176, rfl⟩
abbrev main_v67 : Ref sig .tc := ⟨.hbm, 177, rfl⟩
abbrev main_v68 : Ref sig .tc := ⟨.hbm, 178, rfl⟩

abbrev nD : Nat := 1
abbrev τ : Topo := Topo.v7x

variable {F : FTy → Type} [FloatOps F]
-- ==== Proof.KRuns.lean ====
/- The body of the idealized kernel run once, at a generic grid point: the three cases of its two conditionals (the first point, the
   points in between, the last point), each with what the body leaves in every buffer stated as a value. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.ValueKit
public import Idealize.ShloMosaic.Lib.Pointwise
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body -/

/-- The condition under which the body fills the transposed gallery. -/
abbrev first (i : grid0.Coords) : Prop := (Scalar.cmpi .ne (Scalar.extui (Scalar.cmpi .eq (BitVec.ofNat 32 (i 0).val) 0#32)) 0#32) = 1#1

/-- It holds at point 0 and nowhere else. -/
theorem first_iff : ∀ t : Fin cfg0.N, first (grid0.coords t) ↔ t.val = 0 :=
  (fun t => by
    have ht : t.val < 48 := Nat.lt_of_lt_of_eq t.isLt N_0
    have e0 : (grid0.coords t 0).val = t.val / 1 % 48 := Pipeline.Grid.coords_val t 0 (by decide) rfl
    simp only [first, e0]
    word_cmp
   : ∀ t : Fin grid0.N, first (grid0.coords t) ↔ t.val = 0)

/-- The condition under which the body computes the result. -/
abbrev last (i : grid0.Coords) : Prop := k0_cond2 i = 1#1

/-- It holds at point 47 and nowhere else. -/
theorem last_iff : ∀ t : Fin cfg0.N, last (grid0.coords t) ↔ t.val = 47 :=
  (fun t => by
    have ht : t.val < 48 := Nat.lt_of_lt_of_eq t.isLt N_0
    have e0 : (grid0.coords t 0).val = t.val / 1 % 48 := Pipeline.Grid.coords_val t 0 (by decide) rfl
    simp only [last, k0_cond2, e0]
    word_cmp
   : ∀ t : Fin grid0.N, last (grid0.coords t) ↔ t.val = 47)

/-! ## What the body leaves, as values -/

/-- The statistics of one probe: what the body stores into its slice of the second scratch, of the probe's block `x1`, the layer's
    weights `x2`, the mask `x3` and the transposed gallery `g`, which it reads in three parts of sixteen. -/
def stat (x1 : Vec F S1x64x256 .f32) (x2 : Vec F S1x256 .f32) (x3 : Vec F S256x256 .bf16) (g : Vec F S12288x64 .bf16) : FVec F S1x48x3 .f32 :=
  k0_pay1 (k0_pay14 x3)
    (k0_pay16 x1 x3 (View.ld g (Rect.unit (s := S12288x64) ![0, 0] S4096x64.size inb_S12288x64_S4096x64_0_0)))
    (k0_pay17 x1 x3 (View.ld g (Rect.unit (s := S12288x64) ![0, 0] S4096x64.size inb_S12288x64_S4096x64_0_0)))
    (k0_pay19 x1 x3 (View.ld g (Rect.unit (s := S12288x64) ![4096, 0] S4096x64.size inb_S12288x64_S4096x64_4096_0)))
    (k0_pay20 x1 x3 (View.ld g (Rect.unit (s := S12288x64) ![4096, 0] S4096x64.size inb_S12288x64_S4096x64_4096_0)))
    (k0_pay21 x1 (View.ld g (Rect.unit (s := S12288x64) ![8192, 0] S4096x64.size inb_S12288x64_S4096x64_8192_0)))
    (k0_pay22 x1 x3 (View.ld g (Rect.unit (s := S12288x64) ![8192, 0] S4096x64.size inb_S12288x64_S4096x64_8192_0)))
    x2

/-- The array `d` with slice `i` replaced by `w`. -/
def setRow (i : grid0.Coords) (d : Vec F S48x48x3 .f32) (w : FVec F S1x48x3 .f32) : Vec F S48x48x3 .f32 :=
  fun y => if (y (0 : Fin 3)).val = (i 0).val then w (ix3 (0 : Fin 1) (y (1 : Fin 3)) (y (2 : Fin 3))) else d y

/-- The result: what the body stores at the last point, of the weights `x2`, the five scalars `x4` and the whole statistics `d`. -/
def epi (x2 : Vec F S1x256 .f32) (x4 : Vec F S1x5 .f32) (d : Vec F S48x48x3 .f32) : FVec F S48x48 .f32 :=
  k0_pay2 (k0_pay3 d)
    (k0_pay4 (View.ld x4 (Rect.unit (s := S1x5) ![0, 1] S1x1.size inb_S1x5_S1x1_0_1)))
    (k0_pay5 (View.ld x4 (Rect.unit (s := S1x5) ![0, 2] S1x1.size inb_S1x5_S1x1_0_2)))
    (k0_pay6 (View.ld x4 (Rect.unit (s := S1x5) ![0, 3] S1x1.size inb_S1x5_S1x1_0_3)))
    (k0_pay7 (View.ld x4 (Rect.unit (s := S1x5) ![0, 4] S1x1.size inb_S1x5_S1x1_0_4)))
    (k0_pay9 d (View.ld x4 (Rect.unit (s := S1x5) ![0, 0] S1x1.size inb_S1x5_S1x1_0_0)))
    (k0_pay10 x2) (k0_pay11 d)

/-- One store of slice `i` over contents `d` leaves `setRow i d`. -/
theorem read_setRow {arg8 : Memref sig .tc .vmem S48x48x3 .f32} (harg8 : arg8.IsWhole) (i : grid0.Coords) (d : Vec F S48x48x3 .f32)
    (w : FVec F S1x48x3 .f32) :
    arg8.view.read (Elt F) (arg8.view.writes (Elt F) (harg8.unread d)
      [(⟨Rect.unit (s := S48x48x3) (k0_off1 i) S1x48x3.size (k0_off1_inb i), w⟩ : View.Piece (Elt F) S48x48x3 .f32)]) = setRow i d w := by
  funext y
  by_cases h : (y (0 : Fin 3)).val = (i 0).val
  · refine (View.read_writes_cons_unit_of_mem (s := S48x48x3) arg8.view (harg8.unread d) (off := k0_off1 i) (size := S1x48x3.size)
      (k0_off1_inb i) w [] y (ix3 (0 : Fin 1) (y (1 : Fin 3)) (y (2 : Fin 3))) (k0_off1_eq i) (fun a => ?_)).trans ?_
    · fin_cases a
      · show (y (0 : Fin 3)).val = (i 0).val + 0; omega
      · show (y (1 : Fin 3)).val = 0 + (y (1 : Fin 3)).val; omega
      · show (y (2 : Fin 3)).val = 0 + (y (2 : Fin 3)).val; omega
    · unfold setRow; rw [if_pos h]
  · refine (View.read_writes_cons_unit_of_not_mem (s := S48x48x3) arg8.view (harg8.unread d) (off := k0_off1 i) (size := S1x48x3.size)
      (k0_off1_inb i) w [] y (k0_off1_eq i) (0 : Fin 3)
      (by show (y (0 : Fin 3)).val < (i 0).val ∨ (i 0).val + 1 ≤ (y (0 : Fin 3)).val; omega)).trans ?_
    unfold setRow; rw [if_neg h]
    exact congrFun (harg8.read_unread d) y

/-- A load of what one store of a whole buffer left reads the stored value. -/
theorem covered_ld [∀ e, Nonempty (Elt F e)] {κ : Kind} {sp : Space} {s : Shape} {e : EltTy} (v : View sig κ sp s e) {off : Fin s.rank → ℕ}
    (inb : ∀ a, off a + s.size a ≤ s.size a) (w : s.Idx → Elt F e) (r : Rect s) :
    v.readCov [(⟨Rect.unit off s.size inb, w⟩ : View.Piece (Elt F) s e)] r.toLoadRect = View.ld w r :=
  congrArg (fun f => View.ld f r) (View.read_writes_full v v.junk inb w [])

set_option maxHeartbeats 1000000 in
/-- The body at the first point: the transposed gallery is stored whole, and slice `i` of the statistics. -/
theorem runA (c : Dev nD) (i : grid0.Coords)
    (arg1 : Memref sig .tc .vmem S48x64x256 .f32) (harg1 : arg1.IsWhole) (arg2 : Memref sig .tc .vmem S1x64x256 .f32) (harg2 : arg2.IsWhole)
    (arg3 : Memref sig .tc .vmem S1x256 .f32) (harg3 : arg3.IsWhole) (arg4 : Memref sig .tc .vmem S256x256 .bf16) (harg4 : arg4.IsWhole)
    (arg5 : Memref sig .tc .vmem S1x5 .f32) (harg5 : arg5.IsWhole) (arg6 : Memref sig .tc .vmem S48x48 .f32) (harg6 : arg6.IsWhole)
    (arg7 : Memref sig .tc .vmem S12288x64 .bf16) (harg7 : arg7.IsWhole) (arg8 : Memref sig .tc .vmem S48x48x3 .f32) (harg8 : arg8.IsWhole)
    (hc0 : first i) (hc1 : ¬last i)
    (x0 : Vec F S48x64x256 .f32) (x1 : Vec F S1x64x256 .f32) (x2 : Vec F S1x256 .f32) (x3 : Vec F S256x256 .bf16) (x4 : Vec F S1x5 .f32)
    (d8 : Vec F S48x48x3 .f32) (d6 : Vec F S48x48 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare d6 ∗ (∃ d, owns (c : Thread nD τ) arg7 fullShare d) ∗ owns (c : Thread nD τ) arg8 fullShare d8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare d6 ∗ owns (c : Thread nD τ) arg7 fullShare (k0_pay12 x0) ∗ owns (c : Thread nD τ) arg8 fullShare (setRow i d8 (stat x1 x2 x3 (k0_pay12 x0)))) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8) K := by
  simp only [cc0__fused_kernel_eq_skeleton]; unfold cc0__fused_kernel_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg8.eq_unread hf8
  obtain rfl := harg6.eq_unread hf5
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H7]
  · iexists _; isplitr; swap; · iexact H7
    ipureintro
    sl_unfold_words
    refine (View.read_writes_full (s := S12288x64) arg7.view f7 inb_S12288x64_S12288x64_0_0 _ []).trans ?_
    rw [show View.readAt (Elt F) arg1.view (Rect.unit (s := S48x64x256) ![0, 0, 0] ![48, 64, 256] inb_S48x64x256_S48x64x256_0_0_0).toLoadRect (harg1.unread x0) = x0 from
      (View.readAt_full (s := S48x64x256) arg1.view _ inb_S48x64x256_S48x64x256_0_0_0).trans (harg1.read_unread x0)]
  iexists _; isplitr; swap; · iexact H8
  ipureintro
  sl_unfold_words
  rw [show View.readAt (Elt F) arg1.view (Rect.unit (s := S48x64x256) ![0, 0, 0] ![48, 64, 256] inb_S48x64x256_S48x64x256_0_0_0).toLoadRect (harg1.unread x0) = x0 from
      (View.readAt_full (s := S48x64x256) arg1.view _ inb_S48x64x256_S48x64x256_0_0_0).trans (harg1.read_unread x0),
    show View.readAt (Elt F) arg2.view (Rect.unit (s := S1x64x256) ![0, 0, 0] S1x64x256.size inb_S1x64x256_S1x64x256_0_0_0).toLoadRect (harg2.unread x1) = x1 from
      (View.readAt_full arg2.view _ _).trans (harg2.read_unread x1),
    show View.readAt (Elt F) arg4.view (Rect.unit (s := S256x256) ![0, 0] S256x256.size inb_S256x256_S256x256_0_0).toLoadRect (harg4.unread x3) = x3 from
      (View.readAt_full arg4.view _ _).trans (harg4.read_unread x3),
    show View.readAt (Elt F) arg3.view (Rect.unit (s := S1x256) ![0, 0] ![1, 256] inb_S1x256_S1x256_0_0).toLoadRect (harg3.unread x2) = x2 from
      (View.readAt_full (s := S1x256) arg3.view _ inb_S1x256_S1x256_0_0).trans (harg3.read_unread x2),
    covered_ld (s := S12288x64) arg7.view inb_S12288x64_S12288x64_0_0 (k0_pay12 x0) (Rect.unit (s := S12288x64) ![0, 0] S4096x64.size inb_S12288x64_S4096x64_0_0),
    covered_ld (s := S12288x64) arg7.view inb_S12288x64_S12288x64_0_0 (k0_pay12 x0) (Rect.unit (s := S12288x64) ![4096, 0] S4096x64.size inb_S12288x64_S4096x64_4096_0),
    covered_ld (s := S12288x64) arg7.view inb_S12288x64_S12288x64_0_0 (k0_pay12 x0) (Rect.unit (s := S12288x64) ![8192, 0] S4096x64.size inb_S12288x64_S4096x64_8192_0)]
  have h := read_setRow harg8 i d8 (stat x1 x2 x3 (k0_pay12 x0))
  unfold stat at h
  exact h

set_option maxHeartbeats 1000000 in
/-- The body at a point in between: slice `i` of the statistics is stored. -/
theorem runB (c : Dev nD) (i : grid0.Coords)
    (arg1 : Memref sig .tc .vmem S48x64x256 .f32) (harg1 : arg1.IsWhole) (arg2 : Memref sig .tc .vmem S1x64x256 .f32) (harg2 : arg2.IsWhole)
    (arg3 : Memref sig .tc .vmem S1x256 .f32) (harg3 : arg3.IsWhole) (arg4 : Memref sig .tc .vmem S256x256 .bf16) (harg4 : arg4.IsWhole)
    (arg5 : Memref sig .tc .vmem S1x5 .f32) (harg5 : arg5.IsWhole) (arg6 : Memref sig .tc .vmem S48x48 .f32) (harg6 : arg6.IsWhole)
    (arg7 : Memref sig .tc .vmem S12288x64 .bf16) (harg7 : arg7.IsWhole) (arg8 : Memref sig .tc .vmem S48x48x3 .f32) (harg8 : arg8.IsWhole)
    (hc0 : ¬first i) (hc1 : ¬last i)
    (x0 : Vec F S48x64x256 .f32) (x1 : Vec F S1x64x256 .f32) (x2 : Vec F S1x256 .f32) (x3 : Vec F S256x256 .bf16) (x4 : Vec F S1x5 .f32)
    (d8 : Vec F S48x48x3 .f32) (d6 : Vec F S48x48 .f32) (g : Vec F S12288x64 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare d6 ∗ owns (c : Thread nD τ) arg7 fullShare g ∗ owns (c : Thread nD τ) arg8 fullShare d8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare d6 ∗ owns (c : Thread nD τ) arg7 fullShare g ∗ owns (c : Thread nD τ) arg8 fullShare (setRow i d8 (stat x1 x2 x3 g))) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8) K := by
  simp only [cc0__fused_kernel_eq_skeleton]; unfold cc0__fused_kernel_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f7, %hf7, H7⟩, ⟨%f8, %hf8, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg8.eq_unread hf8
  obtain rfl := harg6.eq_unread hf5; obtain rfl := harg7.eq_unread hf7
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H7]
  · iexists _; isplitr; · ipureintro; exact harg7.read_unread _
    iexact H7
  iexists _; isplitr; swap; · iexact H8
  ipureintro
  sl_unfold_words
  rw [show View.readAt (Elt F) arg2.view (Rect.unit (s := S1x64x256) ![0, 0, 0] S1x64x256.size inb_S1x64x256_S1x64x256_0_0_0).toLoadRect (harg2.unread x1) = x1 from
      (View.readAt_full arg2.view _ _).trans (harg2.read_unread x1),
    show View.readAt (Elt F) arg4.view (Rect.unit (s := S256x256) ![0, 0] S256x256.size inb_S256x256_S256x256_0_0).toLoadRect (harg4.unread x3) = x3 from
      (View.readAt_full arg4.view _ _).trans (harg4.read_unread x3),
    show View.readAt (Elt F) arg3.view (Rect.unit (s := S1x256) ![0, 0] ![1, 256] inb_S1x256_S1x256_0_0).toLoadRect (harg3.unread x2) = x2 from
      (View.readAt_full (s := S1x256) arg3.view _ inb_S1x256_S1x256_0_0).trans (harg3.read_unread x2)]
  simp only [View.readAt_eq_ld, harg7.read_unread]
  have h := read_setRow harg8 i d8 (stat x1 x2 x3 g)
  unfold stat at h
  exact h

set_option maxHeartbeats 1000000 in
/-- The body at the last point: slice `i` of the statistics is stored, then the result of the whole statistics. -/
theorem runC (c : Dev nD) (i : grid0.Coords)
    (arg1 : Memref sig .tc .vmem S48x64x256 .f32) (harg1 : arg1.IsWhole) (arg2 : Memref sig .tc .vmem S1x64x256 .f32) (harg2 : arg2.IsWhole)
    (arg3 : Memref sig .tc .vmem S1x256 .f32) (harg3 : arg3.IsWhole) (arg4 : Memref sig .tc .vmem S256x256 .bf16) (harg4 : arg4.IsWhole)
    (arg5 : Memref sig .tc .vmem S1x5 .f32) (harg5 : arg5.IsWhole) (arg6 : Memref sig .tc .vmem S48x48 .f32) (harg6 : arg6.IsWhole)
    (arg7 : Memref sig .tc .vmem S12288x64 .bf16) (harg7 : arg7.IsWhole) (arg8 : Memref sig .tc .vmem S48x48x3 .f32) (harg8 : arg8.IsWhole)
    (hc0 : ¬first i) (hc1 : last i)
    (x0 : Vec F S48x64x256 .f32) (x1 : Vec F S1x64x256 .f32) (x2 : Vec F S1x256 .f32) (x3 : Vec F S256x256 .bf16) (x4 : Vec F S1x5 .f32)
    (d8 : Vec F S48x48x3 .f32) (g : Vec F S12288x64 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare g ∗ owns (c : Thread nD τ) arg8 fullShare d8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (epi x2 x4 (setRow i d8 (stat x1 x2 x3 g))) ∗ owns (c : Thread nD τ) arg7 fullShare g ∗ owns (c : Thread nD τ) arg8 fullShare (setRow i d8 (stat x1 x2 x3 g))) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8) K := by
  simp only [cc0__fused_kernel_eq_skeleton]; unfold cc0__fused_kernel_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f7, %hf7, H7⟩, ⟨%f8, %hf8, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg8.eq_unread hf8
  obtain rfl := harg7.eq_unread hf7
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_words
    rw [show View.readAt (Elt F) arg2.view (Rect.unit (s := S1x64x256) ![0, 0, 0] S1x64x256.size inb_S1x64x256_S1x64x256_0_0_0).toLoadRect (harg2.unread x1) = x1 from
      (View.readAt_full arg2.view _ _).trans (harg2.read_unread x1),
    show View.readAt (Elt F) arg4.view (Rect.unit (s := S256x256) ![0, 0] S256x256.size inb_S256x256_S256x256_0_0).toLoadRect (harg4.unread x3) = x3 from
      (View.readAt_full arg4.view _ _).trans (harg4.read_unread x3),
    show View.readAt (Elt F) arg3.view (Rect.unit (s := S1x256) ![0, 0] ![1, 256] inb_S1x256_S1x256_0_0).toLoadRect (harg3.unread x2) = x2 from
      (View.readAt_full (s := S1x256) arg3.view _ inb_S1x256_S1x256_0_0).trans (harg3.read_unread x2)]
    rw [show View.readAt (Elt F) arg7.view (Rect.unit (s := S12288x64) ![0, 0] S4096x64.size inb_S12288x64_S4096x64_0_0).toLoadRect (harg7.unread g)
        = View.ld g (Rect.unit (s := S12288x64) ![0, 0] S4096x64.size inb_S12288x64_S4096x64_0_0) from
      congrArg (fun f => View.ld f _) (harg7.read_unread g),
    show View.readAt (Elt F) arg7.view (Rect.unit (s := S12288x64) ![4096, 0] S4096x64.size inb_S12288x64_S4096x64_4096_0).toLoadRect (harg7.unread g)
        = View.ld g (Rect.unit (s := S12288x64) ![4096, 0] S4096x64.size inb_S12288x64_S4096x64_4096_0) from
      congrArg (fun f => View.ld f _) (harg7.read_unread g),
    show View.readAt (Elt F) arg7.view (Rect.unit (s := S12288x64) ![8192, 0] S4096x64.size inb_S12288x64_S4096x64_8192_0).toLoadRect (harg7.unread g)
        = View.ld g (Rect.unit (s := S12288x64) ![8192, 0] S4096x64.size inb_S12288x64_S4096x64_8192_0) from
      congrArg (fun f => View.ld f _) (harg7.read_unread g),
    show View.readAt (Elt F) arg5.view (Rect.unit (s := S1x5) ![0, 0] S1x1.size inb_S1x5_S1x1_0_0).toLoadRect (harg5.unread x4)
        = View.ld x4 (Rect.unit (s := S1x5) ![0, 0] S1x1.size inb_S1x5_S1x1_0_0) from
      congrArg (fun f => View.ld f _) (harg5.read_unread x4),
    show View.readAt (Elt F) arg5.view (Rect.unit (s := S1x5) ![0, 1] S1x1.size inb_S1x5_S1x1_0_1).toLoadRect (harg5.unread x4)
        = View.ld x4 (Rect.unit (s := S1x5) ![0, 1] S1x1.size inb_S1x5_S1x1_0_1) from
      congrArg (fun f => View.ld f _) (harg5.read_unread x4),
    show View.readAt (Elt F) arg5.view (Rect.unit (s := S1x5) ![0, 2] S1x1.size inb_S1x5_S1x1_0_2).toLoadRect (harg5.unread x4)
        = View.ld x4 (Rect.unit (s := S1x5) ![0, 2] S1x1.size inb_S1x5_S1x1_0_2) from
      congrArg (fun f => View.ld f _) (harg5.read_unread x4),
    show View.readAt (Elt F) arg5.view (Rect.unit (s := S1x5) ![0, 3] S1x1.size inb_S1x5_S1x1_0_3).toLoadRect (harg5.unread x4)
        = View.ld x4 (Rect.unit (s := S1x5) ![0, 3] S1x1.size inb_S1x5_S1x1_0_3) from
      congrArg (fun f => View.ld f _) (harg5.read_unread x4),
    show View.readAt (Elt F) arg5.view (Rect.unit (s := S1x5) ![0, 4] S1x1.size inb_S1x5_S1x1_0_4).toLoadRect (harg5.unread x4)
        = View.ld x4 (Rect.unit (s := S1x5) ![0, 4] S1x1.size inb_S1x5_S1x1_0_4) from
      congrArg (fun f => View.ld f _) (harg5.read_unread x4)]
    have h := (View.readAt_full (s := S48x48x3) arg8.view _ inb_S48x48x3_S48x48x3_0_0_0).trans (read_setRow harg8 i d8 (stat x1 x2 x3 g))
    refine (View.read_writes_full (s := S48x48) arg6.view f5 inb_S48x48_S48x48_0_0 _ []).trans ?_
    unfold epi
    rw [← h]
    unfold stat
    rfl
  isplitl [H7]
  · iexists _; isplitr; · ipureintro; exact harg7.read_unread _
    iexact H7
  iexists _; isplitr; swap; · iexact H8
  ipureintro
  sl_unfold_words
  rw [show View.readAt (Elt F) arg2.view (Rect.unit (s := S1x64x256) ![0, 0, 0] S1x64x256.size inb_S1x64x256_S1x64x256_0_0_0).toLoadRect (harg2.unread x1) = x1 from
      (View.readAt_full arg2.view _ _).trans (harg2.read_unread x1),
    show View.readAt (Elt F) arg4.view (Rect.unit (s := S256x256) ![0, 0] S256x256.size inb_S256x256_S256x256_0_0).toLoadRect (harg4.unread x3) = x3 from
      (View.readAt_full arg4.view _ _).trans (harg4.read_unread x3),
    show View.readAt (Elt F) arg3.view (Rect.unit (s := S1x256) ![0, 0] ![1, 256] inb_S1x256_S1x256_0_0).toLoadRect (harg3.unread x2) = x2 from
      (View.readAt_full (s := S1x256) arg3.view _ inb_S1x256_S1x256_0_0).trans (harg3.read_unread x2)]
  simp only [View.readAt_eq_ld, harg7.read_unread]
  have h := read_setRow harg8 i d8 (stat x1 x2 x3 g)
  unfold stat at h
  exact h

end Cert.KernelIdeal.Hand

end
-- ==== Proof.KRun.lean ====
/- The run of the idealized kernel: the invariant over the 48 grid points (the transposed gallery kept from the first one, the statistics
   growing by one slice a point), the body's triple at a generic point, and the result array at the end as a value. -/
module

public import proofs.«01_k».proof.Proof.KRuns
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's operands -/

/-- The buffer of window 0 (the gallery) at a point. -/
abbrev mem0 (t : Fin cfg0.N) : Memref sig .tc .vmem S48x64x256 .f32 := win0_0.stage (cfg0.slots t 0)
/-- The buffer of window 1 (a probe) at a point. -/
abbrev mem1 (t : Fin cfg0.N) : Memref sig .tc .vmem S1x64x256 .f32 := win0_1.stage (cfg0.slots t 1)
/-- The buffer of window 2 (the weights) at a point. -/
abbrev mem2 (t : Fin cfg0.N) : Memref sig .tc .vmem S1x256 .f32 := win0_2.stage (cfg0.slots t 2)
/-- The buffer of window 3 (the mask) at a point. -/
abbrev mem3 (t : Fin cfg0.N) : Memref sig .tc .vmem S256x256 .bf16 := win0_3.stage (cfg0.slots t 3)
/-- The buffer of window 4 (the scalars) at a point. -/
abbrev mem4 (t : Fin cfg0.N) : Memref sig .tc .vmem S1x5 .f32 := win0_4.stage (cfg0.slots t 4)
/-- The buffer of window 5 (the result) at a point. -/
abbrev mem5 (t : Fin cfg0.N) : Memref sig .tc .vmem S48x48 .f32 := win0_5.stage (cfg0.slots t 5)
/-- The two scratch buffers, whole. -/
abbrev scr0 : Memref sig .tc .vmem S12288x64 .bf16 := Memref.whole cc0_scratch0
/-- The second scratch buffer: the statistics. -/
abbrev scr1 : Memref sig .tc .vmem S48x48x3 .f32 := Memref.whole cc0_scratch1

/-- The launch's invariant, with the scratch buffers as memrefs owned at some contents. -/
theorem PhiA_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-! ## What the scratch holds -/

/-- Every grid point below 48 is a point of the grid. -/
theorem lt_N {n : ℕ} (h : n < 48) : n < cfg0.N := Nat.lt_of_lt_of_eq h N_0.symm

/-- The transposed gallery, as the first point leaves it. -/
def gft (c : Dev nD) : Vec F S12288x64 .bf16 := k0_pay12 (iblk m c 0 ⟨0, lt_N (by omega)⟩)

/-- The statistics point `t` stores. -/
def statAt (c : Dev nD) (t : Fin cfg0.N) : FVec F S1x48x3 .f32 := stat (iblk m c 1 t) (iblk m c 2 t) (iblk m c 3 t) (gft m c)

/-- The whole statistics: slice `p` is what point `p` stores. -/
def stats (c : Dev nD) : Vec F S48x48x3 .f32 :=
  fun y => statAt m c ⟨(y (0 : Fin 3)).val, lt_N (y (0 : Fin 3)).isLt⟩ (ix3 (0 : Fin 1) (y (1 : Fin 3)) (y (2 : Fin 3)))

/-- The statistics' slices up to point `n` are in place. -/
def Upto (c : Dev nD) (n : ℕ) (d : Vec F S48x48x3 .f32) : Prop := ∀ y : S48x48x3.Idx, (y (0 : Fin 3)).val ≤ n → d y = stats m c y

/-- Point `t`'s coordinate is its position. -/
theorem coord_val (t : Fin cfg0.N) : (grid0.coords t 0).val = t.val := by
  have ht : t.val < 48 := Nat.lt_of_lt_of_eq t.isLt N_0
  have e0 : (grid0.coords t 0).val = t.val / 1 % 48 := Pipeline.Grid.coords_val t 0 (by decide) rfl
  rw [e0]; omega

/-- Storing slice `t` over statistics whose earlier slices are in place puts the slices up to `t` in place. -/
theorem upto_setRow (c : Dev nD) (t : Fin cfg0.N) (d : Vec F S48x48x3 .f32) (h : ∀ y : S48x48x3.Idx, (y (0 : Fin 3)).val < t.val → d y = stats m c y) :
    Upto m c t.val (setRow (grid0.coords t) d (statAt m c t)) := by
  intro y hy
  unfold setRow
  rw [coord_val t]
  by_cases e : (y (0 : Fin 3)).val = t.val
  · rw [if_pos e]
    unfold stats
    have : (⟨(y (0 : Fin 3)).val, lt_N (y (0 : Fin 3)).isLt⟩ : Fin cfg0.N) = t := Fin.ext e
    rw [this]
  · rw [if_neg e]; exact h y (by omega)

/-- All 48 slices in place: the whole statistics. -/
theorem upto_all (c : Dev nD) (d : Vec F S48x48x3 .f32) (h : Upto m c 47 d) : d = stats m c :=
  funext fun y => h y (by have : (y (0 : Fin 3)).val < 48 := (y (0 : Fin 3)).isLt; omega)

/-- The invariant before position `n`: before the first point every scratch at anything, afterwards the transposed gallery in the first and
    the slices of the points so far in the second. -/
def PhiS (c : Dev nD) : (n : ℕ) → n ≤ cfg0.N → sProp 𝕄
  | 0, _ => Pipeline.ΦA spec0 c
  | n + 1, _ => iprop(iprop(owns (c : Thread nD τ) scr0 fullShare (gft m c) ∗ (∃ d, ⌜Upto m c n d⌝ ∗ owns (c : Thread nD τ) scr1 fullShare d)) ∗ (∃ r, prngReg c r))

/-- Before the first point the invariant holds every scratch at anything. -/
theorem PhiS_zero (c : Dev nD) (n : ℕ) (h : n ≤ cfg0.N) (hz : n = 0) : PhiS m c n h = Pipeline.ΦA spec0 c := by
  subst hz; rfl

/-- After a point the invariant holds the transposed gallery and the slices up to that point. -/
theorem PhiS_succ (c : Dev nD) (n : ℕ) (hn : n < cfg0.N) :
    PhiS m c (n + 1) hn = iprop(iprop(owns (c : Thread nD τ) scr0 fullShare (gft m c) ∗ (∃ d, ⌜Upto m c n d⌝ ∗ owns (c : Thread nD τ) scr1 fullShare d)) ∗ (∃ r, prngReg c r)) := rfl

/-- Before a point that is not the first, the same of the point before it. -/
theorem PhiS_pos (c : Dev nD) (n : ℕ) (h : n ≤ cfg0.N) (hz : n ≠ 0) :
    PhiS m c n h = iprop(iprop(owns (c : Thread nD τ) scr0 fullShare (gft m c) ∗ (∃ d, ⌜Upto m c (n - 1) d⌝ ∗ owns (c : Thread nD τ) scr1 fullShare d)) ∗ (∃ r, prngReg c r)) := by
  cases n with
  | zero => exact absurd rfl hz
  | succ n => rfl

/-! ## The pipeline's proof data -/

/-- The result: what the last point stores of the whole statistics. -/
def result (c : Dev nD) (t : Fin cfg0.N) : FVec F S48x48 .f32 := epi (iblk m c 2 t) (iblk m c 4 t) (stats m c)

/-- The proof data on core `c`: each input's buffer at its block, the output's at the result, the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => result m c t
  Φ t := PhiS m c t.val (Nat.le_of_lt_succ t.isLt)
  q _ := fullShare
  owed _ := 0

/-- Each window's array starts as the launch leaves it. -/
theorem A_eq (c : Dev nD) (w : Fin cfg0.W) : (dats m 0 c).A w = V m c (Pipeline.arrRef spec0 w) := by
  dsimp only [dats]

/-- The proof data's invariant before a point is `PhiS` at that point's position. -/
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

/-- The body leaves window 0's block as it is. -/
theorem after_0 (c : Dev nD) (t : Fin cfg0.N) : (dats m 0 c).after 0 t = iblk m c 0 t := by dsimp only [dats]
/-- The body leaves window 1's block as it is. -/
theorem after_1 (c : Dev nD) (t : Fin cfg0.N) : (dats m 0 c).after 1 t = iblk m c 1 t := by dsimp only [dats]
/-- The body leaves window 2's block as it is. -/
theorem after_2 (c : Dev nD) (t : Fin cfg0.N) : (dats m 0 c).after 2 t = iblk m c 2 t := by dsimp only [dats]
/-- The body leaves window 3's block as it is. -/
theorem after_3 (c : Dev nD) (t : Fin cfg0.N) : (dats m 0 c).after 3 t = iblk m c 3 t := by dsimp only [dats]
/-- The body leaves window 4's block as it is. -/
theorem after_4 (c : Dev nD) (t : Fin cfg0.N) : (dats m 0 c).after 4 t = iblk m c 4 t := by dsimp only [dats]
/-- The body leaves the result in window 5. -/
theorem after_5 (c : Dev nD) (t : Fin cfg0.N) : (dats m 0 c).after 5 t = result m c t := by dsimp only [dats]

/-- The body finds window 0's block in its buffer. -/
theorem before_0 (c : Dev nD) (t : Fin cfg0.N) (d) : (dats m 0 c).before 0 t d = iblk m c 0 t :=
  before0_0_of m (dats m 0 c) (A_eq m c 0) (after_0 m c) t d
/-- The body finds window 1's block in its buffer. -/
theorem before_1 (c : Dev nD) (t : Fin cfg0.N) (d) : (dats m 0 c).before 1 t d = iblk m c 1 t :=
  before0_1_of m (dats m 0 c) (A_eq m c 1) (after_1 m c) t d
/-- The body finds window 2's block in its buffer. -/
theorem before_2 (c : Dev nD) (t : Fin cfg0.N) (d) : (dats m 0 c).before 2 t d = iblk m c 2 t :=
  before0_2_of m (dats m 0 c) (A_eq m c 2) (after_2 m c) t d
/-- The body finds window 3's block in its buffer. -/
theorem before_3 (c : Dev nD) (t : Fin cfg0.N) (d) : (dats m 0 c).before 3 t d = iblk m c 3 t :=
  before0_3_of m (dats m 0 c) (A_eq m c 3) (after_3 m c) t d
/-- The body finds window 4's block in its buffer. -/
theorem before_4 (c : Dev nD) (t : Fin cfg0.N) (d) : (dats m 0 c).before 4 t d = iblk m c 4 t :=
  before0_4_of m (dats m 0 c) (A_eq m c 4) (after_4 m c) t d

/-- What a point owes of window 0: its buffer still at the block. -/
theorem leaves_0 (c : Dev nD) (t : Fin cfg0.N) :
    (dats m 0 c).leavesExact 0 t = owns (c : Thread nD τ) (mem0 t) fullShare (iblk m c 0 t) := by
  unfold Dat.leavesExact
  rw [show cfg0.idle 0 (cfg0.grid.coords t) = false from rfl, after_0]
/-- What a point owes of window 1: its buffer still at the block. -/
theorem leaves_1 (c : Dev nD) (t : Fin cfg0.N) :
    (dats m 0 c).leavesExact 1 t = owns (c : Thread nD τ) (mem1 t) fullShare (iblk m c 1 t) := by
  unfold Dat.leavesExact
  rw [show cfg0.idle 1 (cfg0.grid.coords t) = false from rfl, after_1]
/-- What a point owes of window 2: its buffer still at the block. -/
theorem leaves_2 (c : Dev nD) (t : Fin cfg0.N) :
    (dats m 0 c).leavesExact 2 t = owns (c : Thread nD τ) (mem2 t) fullShare (iblk m c 2 t) := by
  unfold Dat.leavesExact
  rw [show cfg0.idle 2 (cfg0.grid.coords t) = false from rfl, after_2]
/-- What a point owes of window 3: its buffer still at the block. -/
theorem leaves_3 (c : Dev nD) (t : Fin cfg0.N) :
    (dats m 0 c).leavesExact 3 t = owns (c : Thread nD τ) (mem3 t) fullShare (iblk m c 3 t) := by
  unfold Dat.leavesExact
  rw [show cfg0.idle 3 (cfg0.grid.coords t) = false from rfl, after_3]
/-- What a point owes of window 4: its buffer still at the block. -/
theorem leaves_4 (c : Dev nD) (t : Fin cfg0.N) :
    (dats m 0 c).leavesExact 4 t = owns (c : Thread nD τ) (mem4 t) fullShare (iblk m c 4 t) := by
  unfold Dat.leavesExact
  rw [show cfg0.idle 4 (cfg0.grid.coords t) = false from rfl, after_4]

/-- At the points before the last the result's buffer is handed back as found. -/
theorem leaves_5_idle (c : Dev nD) (t : Fin cfg0.N) (h : t.val ≠ 47) :
    (dats m 0 c).leavesExact 5 t = iprop(∃ d, owns (c : Thread nD τ) (mem5 t) fullShare ((dats m 0 c).before 5 t d)) := by
  have ht : t.val < 48 := Nat.lt_of_lt_of_eq t.isLt N_0
  have hn : ¬last (grid0.coords t) := fun hl => h ((last_iff t).mp hl)
  refine Dat.leavesExact_idle (dats m 0 c) 5 t ?_ ?_
  · show (!(k0_cond2 (grid0.coords t) == 1#1)) = true
    rw [beq_eq_false_iff_ne.mpr hn]; rfl
  · cases e : (cfg0.win 5).flush t with
    | false => rfl
    | true => exact absurd ((flush0_5 t).mp e) (by omega)

/-- At the last point it holds the result. -/
theorem leaves_5_last (c : Dev nD) (t : Fin cfg0.N) (h : t.val = 47) :
    (dats m 0 c).leavesExact 5 t = owns (c : Thread nD τ) (mem5 t) fullShare (result m c t) := by
  have hl : k0_cond2 (grid0.coords t) = 1#1 := (last_iff t).mpr h
  unfold Dat.leavesExact
  rw [show cfg0.idle 5 (cfg0.grid.coords t) = false from by
    show (!(k0_cond2 (grid0.coords t) == 1#1)) = false
    rw [hl]; rfl, after_5]

/-! ## The body obligation, at a generic point -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 2000000 in
/-- The body at any point: the point's case selects the run, the invariant hands it the scratch and takes it back one slice further. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4]
  have hN : t.val < 48 := lt_of_lt_of_eq t.isLt (show cfg0.N = 48 from N_0)
  by_cases h0 : t.val = 0
  · have hg : gft m c = k0_pay12 (iblk m c 0 t) := by
      have : t = ⟨0, lt_N (by omega)⟩ := Fin.ext h0
      rw [this]; rfl
    rw [leaves_5_idle m c t (by omega)]
    rw [PhiS_castSucc m c t, PhiS_zero m c _ _ h0, PhiA_eq]
    iintro ⟨⟨⟨HS0, ⟨%d8, HS1⟩⟩, Hg⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ _ _ ((first_iff t).mpr h0) (fun h => by have := (last_iff t).mp h; omega) (iblk m c 0 t) (iblk m c 1 t) (iblk m c 2 t) (iblk m c 3 t) (iblk m c 4 t) d8 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · rw [hg]; iexact HS0
        iexists _
        isplitr; swap
        · iexact HS1
        ipureintro
        have hu := upto_setRow m c t d8 (fun y hy => absurd hy (by omega))
        unfold statAt at hu
        rw [hg] at hu
        exact hu
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  by_cases h1 : t.val = 47
  · rw [leaves_5_last m c t h1]
    rw [PhiS_castSucc m c t, PhiS_pos m c _ _ h0]
    iintro ⟨⟨⟨HS0, ⟨%d8, %hd, HS1⟩⟩, Hg⟩, Ho, ⟨%d0, H0⟩, ⟨%d1, H1⟩, ⟨%d2, H2⟩, ⟨%d3, H3⟩, ⟨%d4, H4⟩, ⟨%d5, H5⟩⟩
    iapply (runC c (grid0.coords t) _ _ _ _ _ _ _ _ _ _ _ _ _ _ _ _ (fun h => h0 ((first_iff t).mp h)) ((last_iff t).mpr h1) (iblk m c 0 t) (iblk m c 1 t) (iblk m c 2 t) (iblk m c 3 t) (iblk m c 4 t) d8 _ Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexists _
        isplitr; swap
        · iexact HS1
        ipureintro
        exact upto_setRow m c t d8 (fun y hy => hd y (by omega))
      iexact Hg
    isplitl [Ho]; · iexact Ho
    isplitl [H0]; · iexact H0
    isplitl [H1]; · iexact H1
    isplitl [H2]; · iexact H2
    isplitl [H3]; · iexact H3
    isplitl [H4]; · iexact H4
    have hu : setRow (grid0.coords t) d8 (statAt m c t) = stats m c := by
      have hu := upto_setRow m c t d8 (fun y hy => hd y (by omega))
      rw [h1] at hu
      exact upto_all m c _ hu
    unfold result
    rw [← hu]
    iexact H5
  · rw [leaves_5_idle m c t h1]
    rw [PhiS_castSucc m c t, PhiS_pos m c _ _ h0]
    iintro ⟨⟨⟨HS0, ⟨%d8, %hd, HS1⟩⟩, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ _ _ (fun h => h0 ((first_iff t).mp h)) (fun h => h1 ((last_iff t).mp h)) (iblk m c 0 t) (iblk m c 1 t) (iblk m c 2 t) (iblk m c 3 t) (iblk m c 4 t) d8 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexists _
        isplitr; swap
        · iexact HS1
        ipureintro
        exact upto_setRow m c t d8 (fun y hy => hd y (by omega))
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the scratch's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 48 := N_0; omega), PhiA_eq]
  iintro ⟨⟨HS0, ⟨%d, %hd, HS1⟩⟩, Hg⟩
  isplitl [HS0 HS1]
  · isplitl [HS0]
    · iexists _; iexact HS0
    iexists _; iexact HS1
  iexact Hg

/-! ## The run -/

set_option backward.isDefEq.respectTransparency.types false in
/-- The launch: every execution terminates, every array at the end as the proof data say, every semaphore counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Hand

end
-- ==== Proof.KLit.lean ====
/- The mask's table is the same in the kernel and in the idealized kernel. -/
module

public import proofs.«01_k».proof.Kernel
public import proofs.«01_k».proof.KernelIdeal

@[expose] public section

noncomputable section

namespace Cert.Hand

set_option maxHeartbeats 0 in
set_option maxRecDepth 100000 in
/-- The two programs' tables hold the same words. -/
theorem lit_eq : @Cert.Kernel.lit0 = @Cert.KernelIdeal.lit0 := rfl

end Cert.Hand

end
-- ==== Proof.KText.lean ====
/- The kernel and the idealized kernel are one text: what is proved of the second's run, at any float type, holds of the first's. -/
module

public import proofs.«01_k».proof.Defs
public import proofs.«01_k».proof.Proof.Gen.Kernel
public import proofs.«01_k».proof.Proof.KRun
public import proofs.«01_k».proof.Proof.KLit

@[expose] public section

noncomputable section

namespace Cert.Hand

open Idealize.ShloMosaic Idealize.ShloMosaic.TcCoe Idealize.SL.Sem

/-- The idealized kernel's text, at any float type, runs, leaves its arguments unchanged and every semaphore counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0) :=
  θ_run_and (Cert.KernelIdeal.Gen.frame_of m ρ (Cert.KernelIdeal.Hand.dats m) (Cert.KernelIdeal.Hand.A_eq m)
      ((θ_run _ _ _).mono (fun _ h => h.1) (Cert.KernelIdeal.Hand.run_main m ρ)))
    ((θ_run _ _ _).mono (fun _ h => h.2) (Cert.KernelIdeal.Hand.run_main m ρ))

set_option maxRecDepth 100000 in
/-- The two body tables are one. -/
theorem bodies_eq {F : FTy → Type} [FloatOps F] :
    @Cert.Kernel.defs₀ F _ Cert.Kernel.Gen.facts = @Cert.KernelIdeal.defs₀ F _ Cert.KernelIdeal.Gen.facts := by
  funext p l x
  cases p with
  | tc =>
    obtain ⟨l, hl⟩ := l
    match l, hl, x with
    | 0, _, x => rfl
    | n + 1, h, _ => exact absurd h (by omega)
  | scScalar _ => rfl
  | scVector _ _ => rfl

/-- With their pipelines they are one too. -/
theorem defs_eq {F : FTy → Type} [FloatOps F] :
    @Cert.Kernel.defs F _ Cert.Kernel.Gen.facts = @Cert.KernelIdeal.defs F _ Cert.KernelIdeal.Gen.facts :=
  congrArg (Pipeline.defs (nD := Cert.Kernel.nD) (τ := Cert.Kernel.τ) Cert.Kernel.pcfgs) bodies_eq

set_option maxRecDepth 100000 in
/-- The two main programs are one. -/
theorem main_eq {F : FTy → Type} [FloatOps F] :
    @Cert.Kernel.main F _ Cert.Kernel.Gen.facts = @Cert.KernelIdeal.main F _ Cert.KernelIdeal.Gen.facts := by
  unfold Cert.Kernel.main
  rw [lit_eq]
  rfl

/-- A run of equal bodies and equal main programs is the same run. -/
theorem run_of_eq {F : FTy → Type} [FloatOps F] (s Q)
    (h : θ_run (@Cert.KernelIdeal.defs F _ Cert.KernelIdeal.Gen.facts) (onTc (τ := Cert.KernelIdeal.τ) (@Cert.KernelIdeal.main F _ Cert.KernelIdeal.Gen.facts)) s Q)
    (d t) (hd : d = @Cert.KernelIdeal.defs F _ Cert.KernelIdeal.Gen.facts) (ht : t = @Cert.KernelIdeal.main F _ Cert.KernelIdeal.Gen.facts) :
    θ_run d (onTc (τ := Cert.KernelIdeal.τ) t) s Q := by
  subst hd ht
  exact h

/-- The kernel runs, leaves its arguments unchanged and every semaphore counter at zero. -/
theorem frame_kernel : Cert.quiescent_Kernel (hKernel := Cert.Kernel.Gen.facts) := fun m ρ _ =>
  run_of_eq _ _ (frame_any (F := Bits) m ρ) _ _ defs_eq main_eq

end Cert.Hand

end
-- ==== Proof.Spec.lean ====
/- What both programs compute, over the extended reals and without either program's layout: the scores of a probe's position
   against a gallery image's position, the greatest score of a position over its band of rows, and the constants' values. -/
module

public import Idealize.ShloMosaic.PureOps.Ideal
public import Idealize.ShloMosaic.PureOps.Ideal.Laws

@[expose] public section

noncomputable section

namespace Cert.Hand

open Idealize.ShloMosaic

/-- The first row (or column) block of the window of block `b`, clamped at both ends. -/
def lo (b : ℕ) : ℕ := min (b - 2) 12

/-- A window's blocks are among the sixteen. -/
theorem lo_add_lt (b : ℕ) (k : Fin 4) : lo b + k.val < 16 := by unfold lo; omega

/-- A position's row. -/
theorem div16_lt (s : Fin 256) : s.val / 16 < 16 := by omega
/-- A position's column. -/
theorem mod16_lt (s : Fin 256) : s.val % 16 < 16 := by omega
/-- A row and a column make a position. -/
theorem pair_lt (a b : Fin 16) : a.val * 16 + b.val < 256 := by omega

/-- The flat position of row `a`, column `b`. -/
def flat (a b : Fin 16) : Fin 256 := ⟨a.val * 16 + b.val, pair_lt a b⟩

/-- The flat positions of the window of block `b`: four blocks of sixteen. -/
def band (b : ℕ) : Finset (Fin 256) := Finset.univ.filter fun r => lo b * 16 ≤ r.val ∧ r.val < lo b * 16 + 64

/-- When a position lies in a window. -/
theorem mem_band (b : ℕ) (r : Fin 256) : r ∈ band b ↔ lo b * 16 ≤ r.val ∧ r.val < lo b * 16 + 64 := by
  simp [band]

/-- A window is not empty. -/
theorem band_nonempty (b : ℕ) : (band b).Nonempty :=
  ⟨⟨lo b * 16, by unfold lo; omega⟩, (mem_band _ _).mpr ⟨le_refl _, by show lo b * 16 < _; omega⟩⟩

/-- The score of gallery image `g`'s position `r` against probe `p`'s position `s`. -/
def score (A B : Fin 48 → Fin 64 → Fin 256 → EReal) (p g : Fin 48) (r s : Fin 256) : EReal := ∑ c : Fin 64, B g c r * A p c s

/-- The greatest score of the probe's position `s`. -/
def top1 (A B : Fin 48 → Fin 64 → Fin 256 → EReal) (p g : Fin 48) (s : Fin 256) : EReal :=
  (band (s.val / 16)).sup fun r => score A B p g r s

/-- The greatest score of the gallery image's position `r`. -/
def top2 (A B : Fin 48 → Fin 64 → Fin 256 → EReal) (p g : Fin 48) (r : Fin 256) : EReal :=
  (band (r.val / 16)).sup fun s => score A B p g r s

/-- A maximum under an additive mask (zero in the window, minus infinity elsewhere) is the maximum over the window. -/
theorem fold_mask (f mask : Fin 256 → EReal) (b : ℕ) (h : ∀ r, mask r = if r ∈ band b then 0 else ⊥) :
    (Finset.univ : Finset (Fin 256)).fold max ⊥ (fun r => f r + mask r) = (band b).sup f := by
  refine le_antisymm ?_ ?_
  · rw [Finset.fold_max_le]
    refine ⟨bot_le, fun r _ => ?_⟩
    rw [h r]
    split
    · rename_i hr; rw [add_zero]; exact Finset.le_sup (f := f) hr
    · rw [EReal.add_bot]; exact bot_le
  · refine Finset.sup_le fun r hr => ?_
    rw [Finset.le_fold_max]
    refine Or.inr ⟨r, Finset.mem_univ _, ?_⟩
    rw [h r, if_pos hr, add_zero]

/-- A maximum over four blocks of sixteen is the maximum over the window. -/
theorem fold_blocks (f : Fin 256 → EReal) (b : ℕ) :
    (Finset.univ : Finset (Fin 4 × Fin 16)).fold max ⊥ (fun k => f (flat ⟨lo b + k.1.val, lo_add_lt b k.1⟩ k.2)) = (band b).sup f := by
  refine le_antisymm ?_ ?_
  · rw [Finset.fold_max_le]
    refine ⟨bot_le, fun k _ => Finset.le_sup (f := f) ((mem_band _ _).mpr ?_)⟩
    simp only [flat]; omega
  · refine Finset.sup_le fun r hr => ?_
    rw [mem_band] at hr
    rw [Finset.le_fold_max]
    refine Or.inr ⟨(⟨r.val / 16 - lo b, by omega⟩, ⟨r.val % 16, by omega⟩), Finset.mem_univ _, le_of_eq (congrArg f (Fin.ext ?_))⟩
    simp only [flat]; omega

/-! ## The constants -/

/-- Minus infinity's word. -/
theorem bits_neg_inf : Ideal.ofBits .f32 0xFF800000#32 = ⊥ := by simp [Ideal.ofBits, Ideal.ieee]
/-- Minus infinity's word, in the narrower format. -/
theorem bits_neg_inf_half : Ideal.ofBits .bf16 0xFF80#16 = ⊥ := by simp [Ideal.ofBits, Ideal.ieee]
/-- Plus infinity's word. -/
theorem bits_inf : Ideal.ofBits .f32 0x7F800000#32 = ⊤ := by simp [Ideal.ofBits, Ideal.ieee]
/-- Zero's word. -/
theorem bits_zero : Ideal.ofBits .f32 0x00000000#32 = 0 := by simp [Ideal.ofBits, Ideal.ieee]
/-- Two's word. -/
theorem bits_two : Ideal.ofBits .f32 0x40000000#32 = ((2 : ℝ) : EReal) := by
  simp [Ideal.ofBits, Ideal.ieee, -EReal.coe_mul]; norm_num
/-- The word of the number of entries. -/
theorem bits_count : Ideal.ofBits .f32 0x49900000#32 = ((1179648 : ℝ) : EReal) := by
  simp [Ideal.ofBits, Ideal.ieee, -EReal.coe_mul]; norm_num
/-- The word of the number of pairs. -/
theorem bits_pairs : Ideal.ofBits .f32 0x45100000#32 = ((2304 : ℝ) : EReal) := by
  simp [Ideal.ofBits, Ideal.ieee, -EReal.coe_mul]; norm_num
/-- The batch norms' small addend is a positive real. -/
theorem bits_eps : ∃ e : ℝ, 0 < e ∧ Ideal.ofBits .f32 0x3727C5AC#32 = (e : EReal) := by
  refine ⟨(2 ^ 23 + 2606508 : ℝ) * (2 : ℝ) ^ ((110 : ℤ) - 127 - 23), by positivity, ?_⟩
  simp [Ideal.ofBits, Ideal.ieee, -EReal.coe_mul]; norm_num

end Cert.Hand

end
-- ==== Proof.Layer.lean ====
/- The layer after the greatest scores, in the kernel's form (from sums over each pair) and in the reference's (normalised row by row),
   and their equality where everything but the layer's bias is real. -/
module

public import proofs.«01_k».proof.Proof.Spec

@[expose] public section

noncomputable section

namespace Cert.Hand

open Idealize.ShloMosaic

/-- The number of scores normalised together, and the number of pairs. -/
abbrev nAll : EReal := ((1179648 : ℝ) : EReal)
/-- The number of pairs. -/
abbrev nPairs : EReal := ((2304 : ℝ) : EReal)

/-! ## Re-indexing -/

/-- The position of a pair in the reference's list of pairs. -/
def pair (p g : Fin 48) : Fin 2304 := ⟨p.val * 48 + g.val, by omega⟩

/-- A row of the reference: half `h` of pair `q`. -/
def rowOf (q : Fin 2304) (h : Fin 2) : Fin 4608 := ⟨q.val * 2 + h.val, by omega⟩

/-- A sum over the list of pairs is a sum over both images. -/
theorem sum_pairs (f : Fin 2304 → EReal) : ∑ q, f q = ∑ p : Fin 48, ∑ g : Fin 48, f (pair p g) := by
  rw [← Fintype.sum_prod_type']
  refine (Fintype.sum_equiv (finProdFinEquiv (m := 48) (n := 48)) _ f fun k => congrArg f (Fin.ext ?_)).symm
  show k.1.val * 48 + k.2.val = k.2.val + 48 * k.1.val
  omega

/-- A sum over the rows is a sum over the pairs and the two halves. -/
theorem sum_rows (f : Fin 4608 → EReal) : ∑ n, f n = ∑ p : Fin 48, ∑ g : Fin 48, (f (rowOf (pair p g) 0) + f (rowOf (pair p g) 1)) := by
  have h : ∑ n, f n = ∑ q : Fin 2304, ∑ h : Fin 2, f (rowOf q h) := by
    rw [← Fintype.sum_prod_type']
    refine (Fintype.sum_equiv (finProdFinEquiv (m := 2304) (n := 2)) _ f fun k => congrArg f (Fin.ext ?_)).symm
    show k.1.val * 2 + k.2.val = k.2.val + 2 * k.1.val
    omega
  rw [h, sum_pairs]
  simp only [Fin.sum_univ_two]

/-- The reference's rows: a pair's first row holds `t1`, its second `t2`. -/
def rows (t1 t2 : Fin 48 → Fin 48 → Fin 256 → EReal) (n : Fin 4608) (s : Fin 256) : EReal :=
  if n.val % 2 = 0 then t1 ⟨n.val / 96, by omega⟩ ⟨n.val / 2 % 48, by omega⟩ s else t2 ⟨n.val / 96, by omega⟩ ⟨n.val / 2 % 48, by omega⟩ s

/-- A pair's first row holds the probe's maxima. -/
theorem rows_first (t1 t2 : Fin 48 → Fin 48 → Fin 256 → EReal) (p g : Fin 48) : rows t1 t2 (rowOf (pair p g) 0) = t1 p g := by
  funext s
  have h : (rowOf (pair p g) 0).val = (p.val * 48 + g.val) * 2 := rfl
  unfold rows
  rw [if_pos (by omega)]
  congr 1
  · exact Fin.ext (by show (rowOf (pair p g) 0).val / 96 = p.val; omega)
  · exact Fin.ext (by show (rowOf (pair p g) 0).val / 2 % 48 = g.val; omega)

/-- A pair's second row holds the gallery image's maxima. -/
theorem rows_second (t1 t2 : Fin 48 → Fin 48 → Fin 256 → EReal) (p g : Fin 48) : rows t1 t2 (rowOf (pair p g) 1) = t2 p g := by
  funext s
  have h : (rowOf (pair p g) 1).val = (p.val * 48 + g.val) * 2 + 1 := rfl
  unfold rows
  rw [if_neg (by omega)]
  congr 1
  · exact Fin.ext (by show (rowOf (pair p g) 1).val / 96 = p.val; omega)
  · exact Fin.ext (by show (rowOf (pair p g) 1).val / 2 % 48 = g.val; omega)

/-! ## The two forms of the layer -/

section
variable (t1 t2 : Fin 48 → Fin 48 → Fin 256 → EReal) (w : Fin 256 → EReal) (γ β b ε : EReal)

/-- The kernel's mean, from each pair's sum. -/
def meanK : EReal := Ideal.div (∑ p : Fin 48, ∑ g : Fin 48, ∑ s : Fin 256, (t1 p g s + t2 p g s)) nAll

/-- The kernel's layer: the scale folded into one factor, the shift and the bias into one addend; the variance is the mean of the squares
    minus the square of the mean. -/
def zK (p g : Fin 48) : EReal :=
  γ * Ideal.rsqrt (Ideal.div (∑ p : Fin 48, ∑ g : Fin 48, ∑ s : Fin 256, (t1 p g s * t1 p g s + t2 p g s * t2 p g s)) nAll - meanK t1 t2 * meanK t1 t2 + ε)
      * ((∑ s : Fin 256, (t1 p g s + t2 p g s) * w s) - ((2 : ℝ) : EReal) * meanK t1 t2 * ∑ s : Fin 256, w s)
    + ((2 : ℝ) : EReal) * (β * (∑ s : Fin 256, w s) + b)

/-- The reference's mean of rows `X`. -/
def meanR (X : Fin 4608 → Fin 256 → EReal) : EReal := Ideal.div (∑ n : Fin 4608, ∑ s : Fin 256, X n s) nAll

/-- The reference's variance: the mean of the squared deviations. -/
def varR (X : Fin 4608 → Fin 256 → EReal) : EReal := Ideal.div (∑ n : Fin 4608, ∑ s : Fin 256, (X n s - meanR X) * (X n s - meanR X)) nAll

/-- The reference's layer: every row normalised, weighted and summed, and the bias added; then the pair's two rows are added. -/
def zR (X : Fin 4608 → Fin 256 → EReal) (q : Fin 2304) : EReal :=
  ∑ h : Fin 2, ((∑ s : Fin 256, (γ * (X (rowOf q h) s - meanR X) * Ideal.rsqrt (varR X + ε) + β) * w s) + b)

end

/-! ## Their equality -/

/-- A sum of reals is the real of the sum. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert a S h ih => rw [Finset.sum_insert h, Finset.sum_insert h, ih, EReal.coe_add]

/-- A quotient of reals by a nonzero real is real. -/
theorem div_real (x y : ℝ) (h : y ≠ 0) : Ideal.div (x : EReal) (y : EReal) = ((x / y : ℝ) : EReal) := by
  rw [Ideal.div_coe h, ← EReal.coe_mul, mul_one_div]

/-- The reciprocal square root of a positive real is real. -/
theorem rsqrt_pos (x : ℝ) (h : 0 < x) : Ideal.rsqrt (x : EReal) = (((Real.sqrt x)⁻¹ : ℝ) : EReal) := by
  show (if x < 0 then (⊥ : EReal) else if x = 0 then ⊤ else ((Real.sqrt x)⁻¹ : ℝ)) = _
  rw [if_neg (by linarith), if_neg (by linarith)]

/-- The mean of the squares minus the square of the mean is the mean of the squared deviations. -/
theorem variance (a1 a2 : Fin 48 → Fin 48 → Fin 256 → ℝ) (m : ℝ) (hm : m = (∑ p, ∑ g, ∑ s, (a1 p g s + a2 p g s)) / 1179648) :
    (∑ p, ∑ g, ∑ s, (a1 p g s * a1 p g s + a2 p g s * a2 p g s)) / 1179648 - m * m
      = (∑ p, ∑ g, (∑ s, (a1 p g s - m) * (a1 p g s - m) + ∑ s, (a2 p g s - m) * (a2 p g s - m))) / 1179648 := by
  have e : (∑ p, ∑ g, (∑ s, (a1 p g s - m) * (a1 p g s - m) + ∑ s, (a2 p g s - m) * (a2 p g s - m)))
      = (∑ p, ∑ g, ∑ s, (a1 p g s * a1 p g s + a2 p g s * a2 p g s)) - 2 * m * (∑ p, ∑ g, ∑ s, (a1 p g s + a2 p g s)) + 1179648 * (m * m) := by
    have h (p g : Fin 48) : (∑ s, (a1 p g s - m) * (a1 p g s - m) + ∑ s, (a2 p g s - m) * (a2 p g s - m))
        = (∑ s, (a1 p g s * a1 p g s + a2 p g s * a2 p g s)) - 2 * m * (∑ s, (a1 p g s + a2 p g s)) + 512 * (m * m) := by
      have c : (∑ s : Fin 256, 2 * (m * m)) = 512 * (m * m) := by
        rw [Finset.sum_const, Finset.card_univ, Fintype.card_fin, nsmul_eq_mul]; norm_num; ring
      rw [← c, Finset.mul_sum, ← Finset.sum_add_distrib, ← Finset.sum_sub_distrib, ← Finset.sum_add_distrib]
      exact Finset.sum_congr rfl fun s _ => by ring
    simp only [h, Finset.sum_add_distrib, Finset.sum_sub_distrib, ← Finset.mul_sum, Finset.sum_const, Finset.card_univ, Fintype.card_fin, nsmul_eq_mul]
    norm_num
    ring
  have hS : (∑ p, ∑ g, ∑ s, (a1 p g s + a2 p g s)) = 1179648 * m := by rw [hm]; ring
  rw [e, hS]
  ring

/-- Doubling an extended real is adding it to itself, next to real addends. -/
theorem twice (r c d1 d2 : ℝ) (b : EReal) (h : r + 2 * c = d1 + d2) :
    (r : EReal) + ((2 : ℝ) : EReal) * ((c : EReal) + b) = ((d1 : EReal) + b) + ((d2 : EReal) + b) := by
  induction b using EReal.rec with
  | bot => rw [EReal.add_bot, EReal.coe_mul_bot_of_pos (by norm_num), EReal.add_bot, EReal.add_bot, EReal.add_bot, EReal.add_bot]
  | top => rw [EReal.coe_add_top, EReal.coe_mul_top_of_pos (by norm_num), EReal.coe_add_top, EReal.coe_add_top, EReal.coe_add_top, EReal.top_add_top]
  | coe b =>
    simp only [← EReal.coe_add, ← EReal.coe_mul]
    exact congrArg _ (by linarith)

/-- The two forms of the layer agree on real maxima, weights, scale and shift, whatever the bias. -/
theorem layer_real (a1 a2 : Fin 48 → Fin 48 → Fin 256 → ℝ) (w : Fin 256 → ℝ) (γ β : ℝ) (b : EReal) (e : ℝ) (he : 0 < e) (p g : Fin 48) :
    zK (fun p g s => (a1 p g s : EReal)) (fun p g s => (a2 p g s : EReal)) (fun s => (w s : EReal)) γ β b e p g
      = zR (fun s => (w s : EReal)) γ β b e (rows (fun p g s => (a1 p g s : EReal)) (fun p g s => (a2 p g s : EReal))) (pair p g) := by
  set m : ℝ := (∑ p, ∑ g, ∑ s, (a1 p g s + a2 p g s)) / 1179648 with hm
  set v : ℝ := (∑ p, ∑ g, (∑ s, (a1 p g s - m) * (a1 p g s - m) + ∑ s, (a2 p g s - m) * (a2 p g s - m))) / 1179648 with hv
  have hK : meanK (fun p g s => (a1 p g s : EReal)) (fun p g s => (a2 p g s : EReal)) = (m : EReal) := by
    unfold meanK
    simp only [← EReal.coe_add, coe_sum]
    exact div_real _ _ (by norm_num)
  have hR : meanR (rows (fun p g s => (a1 p g s : EReal)) (fun p g s => (a2 p g s : EReal))) = (m : EReal) := by
    unfold meanR
    rw [sum_rows]
    simp only [rows_first, rows_second, ← Finset.sum_add_distrib]
    simp only [← EReal.coe_add, coe_sum]
    exact div_real _ _ (by norm_num)
  have hV : varR (rows (fun p g s => (a1 p g s : EReal)) (fun p g s => (a2 p g s : EReal))) = (v : EReal) := by
    unfold varR
    rw [hR, sum_rows]
    simp only [rows_first, rows_second]
    simp only [← EReal.coe_sub, ← EReal.coe_mul, coe_sum, ← EReal.coe_add]
    exact div_real _ _ (by norm_num)
  have v0 : 0 ≤ v := by
    refine div_nonneg (Finset.sum_nonneg fun p _ => Finset.sum_nonneg fun g _ => add_nonneg ?_ ?_) (by norm_num)
    · exact Finset.sum_nonneg fun s _ => mul_self_nonneg _
    · exact Finset.sum_nonneg fun s _ => mul_self_nonneg _
  unfold zK zR
  rw [hK, hR, hV]
  simp only [Fin.sum_univ_two, rows_first, rows_second]
  simp only [← EReal.coe_sub, ← EReal.coe_mul, coe_sum, ← EReal.coe_add, div_real _ _ (show (1179648 : ℝ) ≠ 0 by norm_num)]
  rw [variance a1 a2 m hm, rsqrt_pos _ (by linarith)]
  simp only [← EReal.coe_sub, ← EReal.coe_mul, coe_sum, ← EReal.coe_add]
  refine twice _ _ _ _ b ?_
  set ρ : ℝ := (Real.sqrt (v + e))⁻¹
  have hs (a : Fin 256 → ℝ) : (∑ s, (γ * (a s - m) * ρ + β) * w s) = γ * ρ * (∑ s, a s * w s) + (β - γ * ρ * m) * ∑ s, w s := by
    rw [Finset.mul_sum, Finset.mul_sum, ← Finset.sum_add_distrib]
    exact Finset.sum_congr rfl fun s _ => by ring
  have ha : (∑ s, (a1 p g s + a2 p g s) * w s) = (∑ s, a1 p g s * w s) + ∑ s, a2 p g s * w s := by
    rw [← Finset.sum_add_distrib]
    exact Finset.sum_congr rfl fun s _ => by ring
  rw [hs, hs, ha]
  ring

/-- An extended real that is a real. -/
def IsReal (x : EReal) : Prop := ∃ r : ℝ, x = (r : EReal)

/-- The two forms of the layer agree where the maxima, weights, scale and shift are real. -/
theorem layer (t1 t2 : Fin 48 → Fin 48 → Fin 256 → EReal) (w : Fin 256 → EReal) (γ β b ε : EReal)
    (h1 : ∀ p g s, IsReal (t1 p g s)) (h2 : ∀ p g s, IsReal (t2 p g s)) (hw : ∀ s, IsReal (w s)) (hγ : IsReal γ) (hβ : IsReal β)
    (hε : ∃ e : ℝ, 0 < e ∧ ε = (e : EReal)) (p g : Fin 48) :
    zK t1 t2 w γ β b ε p g = zR w γ β b ε (rows t1 t2) (pair p g) := by
  choose a1 e1 using h1
  choose a2 e2 using h2
  choose w' ew using hw
  obtain ⟨γ', rfl⟩ := hγ
  obtain ⟨β', rfl⟩ := hβ
  obtain ⟨e, he, rfl⟩ := hε
  obtain rfl : t1 = fun p g s => (a1 p g s : EReal) := funext fun p => funext fun g => funext fun s => e1 p g s
  obtain rfl : t2 = fun p g s => (a2 p g s : EReal) := funext fun p => funext fun g => funext fun s => e2 p g s
  obtain rfl : w = fun s => (w' s : EReal) := funext ew
  exact layer_real a1 a2 w' γ' β' b e he p g

/-! ## The last normalisation -/

/-- What follows the layer, over the pairs as a square: normalised over all pairs, scaled, shifted, and the logistic function applied. -/
def outK (z : Fin 48 → Fin 48 → EReal) (lg lb ε : EReal) (p g : Fin 48) : EReal :=
  Ideal.logistic (lg * (z p g - Ideal.div (∑ p : Fin 48, ∑ g : Fin 48, z p g) nPairs)
    * Ideal.rsqrt (Ideal.div (∑ p : Fin 48, ∑ g : Fin 48, (z p g - Ideal.div (∑ p : Fin 48, ∑ g : Fin 48, z p g) nPairs)
        * (z p g - Ideal.div (∑ p : Fin 48, ∑ g : Fin 48, z p g) nPairs)) nPairs + ε) + lb)

/-- The same over the pairs as a list. -/
def outR (z : Fin 2304 → EReal) (lg lb ε : EReal) (q : Fin 2304) : EReal :=
  Ideal.logistic (lg * (z q - Ideal.div (∑ q : Fin 2304, z q) nPairs)
    * Ideal.rsqrt (Ideal.div (∑ q : Fin 2304, (z q - Ideal.div (∑ q : Fin 2304, z q) nPairs) * (z q - Ideal.div (∑ q : Fin 2304, z q) nPairs)) nPairs + ε) + lb)

/-- The last normalisation is the same over the square as over the list of pairs. -/
theorem out_eq (zk : Fin 48 → Fin 48 → EReal) (zr : Fin 2304 → EReal) (h : ∀ p g, zk p g = zr (pair p g)) (lg lb ε : EReal) (p g : Fin 48) :
    outK zk lg lb ε p g = outR zr lg lb ε (pair p g) := by
  unfold outK outR
  simp only [sum_pairs, h]

end Cert.Hand

end
-- ==== Proof.Flat.lean ====
/- Where a score or the first normalisation's scale is infinite: both programs' layers are then the same for every pair or infinite at one,
   and the last normalisation leaves only its shift of such a layer. -/
module

public import proofs.«01_k».proof.Proof.Layer

@[expose] public section

noncomputable section

namespace Cert.Hand

open Idealize.ShloMosaic

/-! ## Infinite values -/

/-- A value that is not real is an infinity. -/
theorem inf_of (x : EReal) (h : ¬ IsReal x) : x = ⊤ ∨ x = ⊥ := by
  induction x using EReal.rec with
  | bot => exact .inr rfl
  | top => exact .inl rfl
  | coe r => exact absurd ⟨r, rfl⟩ h

theorem top_inf : ¬ IsReal ⊤ := fun ⟨r, h⟩ => EReal.coe_ne_top r h.symm
theorem bot_inf : ¬ IsReal ⊥ := fun ⟨r, h⟩ => EReal.coe_ne_bot r h.symm

/-- A sum of two is real only if both are. -/
theorem real_add {x y : EReal} (h : IsReal (x + y)) : IsReal x ∧ IsReal y := by
  induction x using EReal.rec with
  | bot => exact absurd (by simpa using h) bot_inf
  | top =>
    induction y using EReal.rec with
    | bot => exact absurd (by simpa using h) bot_inf
    | top => exact absurd (by simpa using h) top_inf
    | coe r => exact absurd (by simpa using h) top_inf
  | coe r =>
    induction y using EReal.rec with
    | bot => exact absurd (by simpa using h) bot_inf
    | top => exact absurd (by simpa using h) top_inf
    | coe s => exact ⟨⟨r, rfl⟩, ⟨s, rfl⟩⟩

/-- A difference with an infinity on the right is infinite. -/
theorem sub_inf {x y : EReal} (h : ¬ IsReal y) : ¬ IsReal (x - y) := fun e => by
  obtain ⟨r, hr⟩ := (real_add (by rwa [sub_eq_add_neg] at e)).2
  exact h ⟨-r, by rw [EReal.coe_neg, ← hr, neg_neg]⟩

/-- A finite sum is real only if every term is. -/
theorem real_sum {ι : Type} (S : Finset ι) (f : ι → EReal) (h : IsReal (∑ i ∈ S, f i)) : ∀ i ∈ S, IsReal (f i) := by
  classical
  induction S using Finset.induction_on with
  | empty => simp
  | insert a S ha ih =>
    rw [Finset.sum_insert ha] at h
    intro i hi
    rcases Finset.mem_insert.mp hi with rfl | hi
    · exact (real_add h).1
    · exact ih (real_add h).2 i hi

/-- An infinity times a value that is not zero is infinite. -/
theorem mul_inf {x y : EReal} (hx : ¬ IsReal x) (hy : y ≠ 0) : ¬ IsReal (x * y) := by
  rcases lt_or_gt_of_ne hy with h | h <;> rcases inf_of x hx with rfl | rfl
  · rw [EReal.top_mul_of_neg h]; exact bot_inf
  · rw [EReal.bot_mul_of_neg h]; exact top_inf
  · rw [EReal.top_mul_of_pos h]; exact top_inf
  · rw [EReal.bot_mul_of_pos h]; exact bot_inf

/-- Zero or infinite. -/
def Extreme (x : EReal) : Prop := x = 0 ∨ ¬ IsReal x

/-- A product with a factor that is zero or infinite is zero or infinite. -/
theorem Extreme.mul {x : EReal} (h : Extreme x) (y : EReal) : Extreme (x * y) := by
  rcases h with rfl | h
  · exact .inl (zero_mul y)
  · by_cases hy : y = 0
    · exact .inl (by rw [hy, mul_zero])
    · exact .inr (mul_inf h hy)

/-- The square of an infinity. -/
theorem sq_inf {x : EReal} (h : ¬ IsReal x) : x * x = ⊤ := by
  rcases inf_of x h with rfl | rfl
  · exact EReal.top_mul_top
  · exact EReal.bot_mul_bot

/-- A square is not negative. -/
theorem sq_nonneg' (x : EReal) : 0 ≤ x * x := by
  by_cases h : IsReal x
  · obtain ⟨r, rfl⟩ := h
    rw [← EReal.coe_mul]
    exact EReal.coe_nonneg.mpr (mul_self_nonneg r)
  · rw [sq_inf h]; exact le_top

/-- A value that is infinite and not negative is plus infinity. -/
theorem top_of {x : EReal} (h : ¬ IsReal x) (h0 : 0 ≤ x) : x = ⊤ := by
  rcases inf_of x h with rfl | rfl
  · rfl
  · exact absurd h0 (by simp)

/-- An infinity divided by a positive real is infinite. -/
theorem div_inf {x : EReal} {n : ℝ} (h : ¬ IsReal x) (hn : 0 < n) : ¬ IsReal (Ideal.div x (n : EReal)) := by
  rw [Ideal.div_coe hn.ne']
  exact mul_inf h (EReal.coe_pos.mpr (by positivity)).ne'

/-- Plus infinity divided by a positive real. -/
theorem div_top {n : ℝ} (hn : 0 < n) : Ideal.div ⊤ (n : EReal) = ⊤ := by
  rw [Ideal.div_coe hn.ne']
  exact EReal.top_mul_of_pos (EReal.coe_pos.mpr (by positivity))

/-! ## The last normalisation of a flat layer -/

/-- A layer that is the same for every pair, or infinite at one. -/
def Flat (z : Fin 48 → Fin 48 → EReal) : Prop := (∃ p g, ¬ IsReal (z p g)) ∨ ∃ c : EReal, ∀ p g, z p g = c

/-- A double sum with an infinite term is infinite. -/
theorem sum2_inf (z : Fin 48 → Fin 48 → EReal) (h : ∃ p g, ¬ IsReal (z p g)) : ¬ IsReal (∑ p, ∑ g, z p g) := fun e => by
  obtain ⟨p, g, hz⟩ := h
  exact hz (real_sum _ _ (real_sum _ _ e p (Finset.mem_univ p)) g (Finset.mem_univ g))

/-- Of a flat layer the last normalisation leaves its shift. -/
theorem out_flat (z : Fin 48 → Fin 48 → EReal) (h : Flat z) (lg lb ε : EReal) (hε : ∃ e : ℝ, 0 < e ∧ ε = (e : EReal)) (p g : Fin 48) :
    outK z lg lb ε p g = Ideal.logistic lb := by
  unfold outK
  by_cases hi : ∃ p g, ¬ IsReal (z p g)
  · have hm : ¬ IsReal (Ideal.div (∑ p, ∑ g, z p g) nPairs) := div_inf (sum2_inf z hi) (by norm_num)
    have hd (p g) : (z p g - Ideal.div (∑ p, ∑ g, z p g) nPairs) * (z p g - Ideal.div (∑ p, ∑ g, z p g) nPairs) = ⊤ := sq_inf (sub_inf hm)
    have hs : ∑ p : Fin 48, ∑ g : Fin 48, (z p g - Ideal.div (∑ p, ∑ g, z p g) nPairs) * (z p g - Ideal.div (∑ p, ∑ g, z p g) nPairs) = ⊤ :=
      top_of (sum2_inf _ ⟨0, 0, by rw [hd]; exact top_inf⟩) (Finset.sum_nonneg fun p _ => Finset.sum_nonneg fun g _ => sq_nonneg' _)
    obtain ⟨e, _, rfl⟩ := hε
    rw [hs, div_top (by norm_num), EReal.top_add_coe, Ideal.rsqrt_top, mul_zero, zero_add]
  · push Not at hi
    obtain ⟨c, hc⟩ : ∃ c : EReal, ∀ p g, z p g = c := h.resolve_left (by push Not; exact hi)
    obtain ⟨r, hr⟩ := hi 0 0
    have e : Ideal.div (∑ p, ∑ g, z p g) nPairs = (r : EReal) := by
      have h0 (p g) : z p g = (r : EReal) := (hc p g).trans ((hc 0 0).symm.trans hr)
      simp only [h0, coe_sum]
      rw [div_real _ _ (by norm_num)]
      simp only [Finset.sum_const, Finset.card_univ, Fintype.card_fin, nsmul_eq_mul]
      exact congrArg _ (by push_cast; ring)
    rw [e, hc p g, ← hc 0 0, hr, ← EReal.coe_sub, sub_self, EReal.coe_zero, mul_zero, zero_mul, zero_add]

/-! ## The layers are flat where a score or the scale is infinite -/

section
variable (t1 t2 : Fin 48 → Fin 48 → Fin 256 → EReal) (w : Fin 256 → EReal) (γ β b ε : EReal)

/-- The kernel's layer is flat where its factor is zero or infinite. -/
theorem flatK (h : Extreme (γ * Ideal.rsqrt (Ideal.div (∑ p : Fin 48, ∑ g : Fin 48, ∑ s : Fin 256, (t1 p g s * t1 p g s + t2 p g s * t2 p g s)) nAll
      - meanK t1 t2 * meanK t1 t2 + ε))) : Flat (zK t1 t2 w γ β b ε) := by
  by_cases hi : ∃ p g, ¬ IsReal (zK t1 t2 w γ β b ε p g)
  · exact .inl hi
  · push Not at hi
    refine .inr ⟨((2 : ℝ) : EReal) * (β * (∑ s : Fin 256, w s) + b), fun p g => ?_⟩
    have := hi p g
    unfold zK at this ⊢
    rw [(h.mul _).resolve_right (not_not_intro (real_add this).1), zero_add]

/-- The reference's layer is flat where every normalised score is zero or infinite before its shift, and the shift and the weights are real. -/
theorem flatR (X : Fin 4608 → Fin 256 → EReal) (hw : ∀ s, IsReal (w s)) (hβ : IsReal β)
    (h : ∀ n s, Extreme (γ * (X n s - meanR X) * Ideal.rsqrt (varR X + ε))) : Flat (fun p g => zR w γ β b ε X (pair p g)) := by
  by_cases hi : ∃ p g, ¬ IsReal (zR w γ β b ε X (pair p g))
  · exact .inl hi
  · push Not at hi
    refine .inr ⟨∑ _h : Fin 2, ((∑ s : Fin 256, β * w s) + b), fun p g => ?_⟩
    have hz := hi p g
    unfold zR at hz ⊢
    refine Finset.sum_congr rfl fun k hk => congrArg (· + b) (Finset.sum_congr rfl fun s hs => ?_)
    have ht := real_sum _ _ (real_add (real_sum _ _ hz k hk)).1 s hs
    rcases h (rowOf (pair p g) k) s with e | e
    · rw [e, zero_add]
    · by_cases h0 : w s = 0
      · rw [h0, mul_zero, mul_zero]
      · exact absurd ht (mul_inf (fun q => e (real_add q).1) h0)

end

/-- Where a score is infinite so are both means; the kernel's variance is minus infinity and the reference's plus infinity. -/
theorem infinite_score (t1 t2 : Fin 48 → Fin 48 → Fin 256 → EReal) (h : ∃ p g s, ¬ (IsReal (t1 p g s) ∧ IsReal (t2 p g s))) :
    Ideal.div (∑ p : Fin 48, ∑ g : Fin 48, ∑ s : Fin 256, (t1 p g s * t1 p g s + t2 p g s * t2 p g s)) nAll - meanK t1 t2 * meanK t1 t2 = ⊥
      ∧ varR (rows t1 t2) = ⊤ := by
  obtain ⟨p, g, s, h⟩ := h
  have hs (f : Fin 48 → Fin 48 → Fin 256 → EReal) (hf : ¬ IsReal (f p g s)) : ¬ IsReal (∑ p, ∑ g, ∑ s, f p g s) := fun e =>
    hf (real_sum _ _ (real_sum _ _ (real_sum _ _ e p (Finset.mem_univ p)) g (Finset.mem_univ g)) s (Finset.mem_univ s))
  have hmK : ¬ IsReal (meanK t1 t2) := div_inf (hs (fun p g s => t1 p g s + t2 p g s) fun e => h (real_add e)) (by norm_num)
  have hmR : ¬ IsReal (meanR (rows t1 t2)) := by
    refine div_inf (fun e => h ?_) (by norm_num)
    have a (k : Fin 2) := real_sum _ _ (real_sum _ _ e (rowOf (pair p g) k) (Finset.mem_univ _)) s (Finset.mem_univ _)
    have a0 := a 0
    have a1 := a 1
    rw [rows_first] at a0
    rw [rows_second] at a1
    exact ⟨a0, a1⟩
  constructor
  · have hq : ∑ p : Fin 48, ∑ g : Fin 48, ∑ s : Fin 256, (t1 p g s * t1 p g s + t2 p g s * t2 p g s) = ⊤ := by
      refine top_of (hs (fun p g s => t1 p g s * t1 p g s + t2 p g s * t2 p g s) fun e => ?_)
        (Finset.sum_nonneg fun p _ => Finset.sum_nonneg fun g _ => Finset.sum_nonneg fun s _ => add_nonneg (sq_nonneg' _) (sq_nonneg' _))
      refine h ⟨by_contra fun h1 => ?_, by_contra fun h2 => ?_⟩
      · exact top_inf (sq_inf h1 ▸ (real_add e).1)
      · exact top_inf (sq_inf h2 ▸ (real_add e).2)
    rw [hq, div_top (by norm_num), sq_inf hmK, sub_eq_add_neg, EReal.neg_top, EReal.add_bot]
  · have hd (n s) : (rows t1 t2 n s - meanR (rows t1 t2)) * (rows t1 t2 n s - meanR (rows t1 t2)) = ⊤ := sq_inf (sub_inf hmR)
    unfold varR
    rw [top_of (x := ∑ n : Fin 4608, ∑ s : Fin 256, (rows t1 t2 n s - meanR (rows t1 t2)) * (rows t1 t2 n s - meanR (rows t1 t2)))
      (fun e => top_inf (hd 0 0 ▸ real_sum _ _ (real_sum _ _ e 0 (Finset.mem_univ _)) 0 (Finset.mem_univ _)))
      (Finset.sum_nonneg fun n _ => Finset.sum_nonneg fun s _ => sq_nonneg' _), div_top (by norm_num)]

/-- From the same maxima, real weights and a real shift of the first normalisation, the two programs' results are equal: whatever the
    maxima, the other scales and shifts and the bias are. -/
theorem out_layer (t1 t2 : Fin 48 → Fin 48 → Fin 256 → EReal) (w : Fin 256 → EReal) (γ β b ε lg lb : EReal) (hw : ∀ s, IsReal (w s)) (hβ : IsReal β)
    (hε : ∃ e : ℝ, 0 < e ∧ ε = (e : EReal)) (p g : Fin 48) :
    outK (zK t1 t2 w γ β b ε) lg lb ε p g = outR (zR w γ β b ε (rows t1 t2)) lg lb ε (pair p g) := by
  by_cases hreal : (∀ p g s, IsReal (t1 p g s) ∧ IsReal (t2 p g s)) ∧ IsReal γ
  · exact out_eq _ _ (layer _ _ _ _ _ _ _ (fun p g s => (hreal.1 p g s).1) (fun p g s => (hreal.1 p g s).2) hw hreal.2 hβ hε) _ _ _ p g
  rw [← out_eq (fun p g => zR w γ β b ε (rows t1 t2) (pair p g)) _ (fun _ _ => rfl)]
  suffices h : Flat (zK t1 t2 w γ β b ε) ∧ Flat (fun p g => zR w γ β b ε (rows t1 t2) (pair p g)) from
    (out_flat _ h.1 _ _ _ hε p g).trans (out_flat _ h.2 _ _ _ hε p g).symm
  by_cases ht : ∀ p g s, IsReal (t1 p g s) ∧ IsReal (t2 p g s)
  · have hγ : Extreme γ := .inr fun e => hreal ⟨ht, e⟩
    exact ⟨flatK _ _ _ _ _ _ _ (hγ.mul _), flatR _ _ _ _ _ _ hw hβ fun n s => (hγ.mul _).mul _⟩
  · push Not at ht
    obtain ⟨p, g, s, h⟩ := ht
    obtain ⟨hK, hR⟩ := infinite_score t1 t2 ⟨p, g, s, fun e => h e.1 e.2⟩
    obtain ⟨e, he, rfl⟩ := hε
    refine ⟨flatK _ _ _ _ _ _ _ ?_, flatR _ _ _ _ _ _ hw hβ fun n s => .inl ?_⟩
    · rw [hK, EReal.bot_add, Ideal.rsqrt_bot, mul_comm]
      exact Extreme.mul (.inr bot_inf) γ
    · rw [hR, EReal.top_add_coe, Ideal.rsqrt_top, mul_zero]

end Cert.Hand

end
-- ==== Proof.KVal.lean ====
/- The idealized kernel's result array, and its operands' blocks read at an index. -/
module

public import proofs.«01_k».proof.Proof.KRun
public import Idealize.ShloMosaic.Lib.Pipeline.ValueKit
public import Idealize.ShloMosaic.Lib.Pointwise

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The windows' block indices: the features of one probe at each point, everything else whole. -/
theorem idx : ∀ t : Fin cfg0.N, win0_0.index t = ![0, 0, 0] ∧ win0_1.index t = ![t.val, 0, 0] ∧ win0_2.index t = ![0, 0]
    ∧ win0_3.index t = ![0, 0] ∧ win0_4.index t = ![0, 0] ∧ win0_5.index t = ![0, 0] :=
  (by decide +kernel : ∀ t : Fin grid0.N, _)

/-- The last point. -/
def tLast : Fin cfg0.N := ⟨47, lt_N (by omega)⟩

/-- The result array after the run is what the last point stores. -/
theorem final (c : Dev nD) : (dats m 0 c).arrAt 5 (cfgs 0).N = result m c tLast := by
  refine (dats m 0 c).arrAt_eq_of_covers 5 _ (by decide +kernel) fun t hf y => ?_
  have ht : t = tLast := by
    have h1 := (flush0_5 t).mp hf
    have h2 : t.val < 48 := t.isLt.trans_eq N_0
    exact Fin.ext (by show t.val = 47; omega)
  subst ht
  blk_simp
  rw [after_5]
  refine congrArg (result m c tLast) ?_
  blk_ext [idx tLast]

/-- The launch holds the gallery with its two position axes merged. -/
theorem V_v1 (c : Dev nD) : V m c main_v1 = shapeCast S48x64x256 (m ((c : Thread nD τ).loc main_arg1)) shapeCasts_S48x64x16x16_S48x64x256 := by
  unfold V; after_results; try rfl

/-- The launch holds the probes with their two position axes merged. -/
theorem V_v0 (c : Dev nD) : V m c main_v0 = shapeCast S48x64x256 (m ((c : Thread nD τ).loc main_arg0)) shapeCasts_S48x64x16x16_S48x64x256 := by
  unfold V; after_results; try rfl

/-- The five scalars side by side: the first batch norm's scale and shift, the layer's bias, the second batch norm's scale and shift. -/
theorem V_v4 (c : Dev nD) : V m c main_v4 = shapeCast S1x5 (concatenate S5 0 [⟨S1, m ((c : Thread nD τ).loc main_arg2)⟩,
    ⟨S1, m ((c : Thread nD τ).loc main_arg3)⟩, ⟨S1, m ((c : Thread nD τ).loc main_arg5)⟩, ⟨S1, m ((c : Thread nD τ).loc main_arg6)⟩,
    ⟨S1, m ((c : Thread nD τ).loc main_arg7)⟩] concatenates_S1_S1_S1_S1_S1_S5_d0) shapeCasts_S5_S1x5 := by
  unfold V; after_results_simp; after_results_loop; try rfl

/-- The launch holds the mask, narrowed. -/
theorem V_v2 (c : Dev nD) : V m c main_v2 = truncf (F := Ideal) (φ := .f32) (s := S256x256) .bf16 (fun i => FloatOps.ofBits .f32 (lit0 (S256x256.rowMajor i))) bitsLt_bf16_f32 := by
  unfold V; after_results; try rfl

end Cert.KernelIdeal.Hand

end
-- ==== Proof.KStat.lean ====
/- The kernel's statistics of one probe, and its last point's result, read at an index. -/
module

public import proofs.«01_k».proof.Proof.KRuns
public import proofs.«01_k».proof.Proof.Spec

@[expose] public section

set_option maxRecDepth 16384

noncomputable section

namespace Cert.KernelIdeal.Hand

open Idealize.ShloMosaic Idealize.ShloMosaic.TcCoe Idealize.SL.Sem
open Cert.KernelIdeal Cert.KernelIdeal.Gen
open Cert.Hand

variable (x1 : Vec Ideal S1x64x256 .f32) (x2 : Vec Ideal S1x256 .f32) (x3 : Vec Ideal S256x256 .bf16) (x4 : Vec Ideal S1x5 .f32)

/-- The scores of one part of the gallery: a product of its rows and the probe's columns. -/
theorem scores_at (b : Vec Ideal S4096x64 .bf16) (g : Fin 16) (r s : Fin 256) : (k0_pay15 x1 b : FVec Ideal S16x256x256 .bf16) (ix3 g r s)
    = ((∑ c : Fin 64, (b (ix2 (⟨g.val * 256 + r.val, by omega⟩ : Fin 4096) c) : EReal) * (x1 (ix3 (0 : Fin 1) c s) : EReal) : EReal)) := by
  pointwise [k0_pay15, k0_pay13]

/-- The mask is zero in a column's window and minus infinity elsewhere. -/
def IsMask (x3 : Vec Ideal S256x256 .bf16) : Prop := ∀ a b : Fin 256, (x3 (ix2 a b) : EReal) = if a ∈ band (b.val / 16) then 0 else ⊥

/-- The masked maximum over the rows of a part's scores is the maximum over the window. -/
theorem maxDown (hm : IsMask x3) (b : Vec Ideal S4096x64 .bf16) (g : Fin 16) (s : Fin 256) : (k0_pay16 x1 x3 b : FVec Ideal S16x256 .bf16) (ix2 g s)
    = (band (s.val / 16)).sup fun r => (k0_pay15 x1 b (ix3 g r s) : EReal) := by
  have h : (k0_pay16 x1 x3 b : FVec Ideal S16x256 .bf16) (ix2 g s)
      = Finset.fold max (Ideal.ofBits .bf16 0xFF80#16) (fun r : Fin 256 => (k0_pay15 x1 b (ix3 g r s) : EReal) + (x3 (ix2 r s) : EReal)) Finset.univ := by
    pointwise [k0_pay16, k0_pay14]
  rw [h, bits_neg_inf_half]
  exact fold_mask _ _ _ fun r => hm r s

/-- The masked maximum over the columns of a part's scores is the maximum over the window. -/
theorem maxAcross (hm : IsMask x3) (b : Vec Ideal S4096x64 .bf16) (g : Fin 16) (s : Fin 256) : (k0_pay17 x1 x3 b : FVec Ideal S16x256 .bf16) (ix2 g s)
    = (band (s.val / 16)).sup fun r => (k0_pay15 x1 b (ix3 g s r) : EReal) := by
  have h : (k0_pay17 x1 x3 b : FVec Ideal S16x256 .bf16) (ix2 g s)
      = Finset.fold max (Ideal.ofBits .bf16 0xFF80#16) (fun r : Fin 256 => (k0_pay15 x1 b (ix3 g s r) : EReal) + (x3 (ix2 r s) : EReal)) Finset.univ := by
    pointwise [k0_pay17, k0_pay14]
  rw [h, bits_neg_inf_half]
  exact fold_mask _ _ _ fun r => hm r s

/-- The transposed gallery at a row. -/
theorem transposed_at (x : Vec Ideal S48x64x256 .f32) (q : Fin 12288) (c : Fin 64) : (k0_pay12 x : FVec Ideal S12288x64 .bf16) (ix2 q c)
    = (x (ix3 (⟨q.val / 256, by omega⟩ : Fin 48) c (⟨q.val % 256, by omega⟩ : Fin 256)) : EReal) := by
  pointwise [k0_pay12]

/-- The features of the probe at one point, by image, channel and position: the same for every image. -/
def feat1 (x1 : Vec Ideal S1x64x256 .f32) (_ : Fin 48) (c : Fin 64) (s : Fin 256) : EReal := x1 (ix3 (0 : Fin 1) c s)
/-- The gallery's features by image, channel and position. -/
def feat0 (x0 : Vec Ideal S48x64x256 .f32) (g : Fin 48) (c : Fin 64) (r : Fin 256) : EReal := x0 (ix3 g c r)

/-- Part `o` of the gallery scored: images `o * 16` and the fifteen after it. -/
theorem part_at (x0 : Vec Ideal S48x64x256 .f32) (b : Vec Ideal S4096x64 .bf16) (o : ℕ)
    (hb : ∀ (q : Fin 4096) (c : Fin 64), ∃ q' : Fin 12288, q'.val = o * 4096 + q.val ∧ b (ix2 q c) = k0_pay12 x0 (ix2 q' c))
    (g : Fin 16) (g' p : Fin 48) (hg : g'.val = o * 16 + g.val) (r s : Fin 256) :
    (k0_pay15 x1 b (ix3 g r s) : EReal) = score (feat1 x1) (feat0 x0) p g' r s := by
  refine (scores_at x1 b g r s).trans ?_
  unfold score feat1 feat0
  refine Finset.sum_congr rfl fun c _ => ?_
  obtain ⟨q', hq, e⟩ := hb ⟨g.val * 256 + r.val, by omega⟩ c
  have e2 : (k0_pay12 x0 (ix2 q' c) : EReal) = x0 (ix3 g' c r) := by
    refine (transposed_at x0 q' c).trans ?_
    have h1 : (⟨q'.val / 256, by omega⟩ : Fin 48) = g' := Fin.ext (by simp only at hq ⊢; omega)
    have h2 : (⟨q'.val % 256, by omega⟩ : Fin 256) = r := Fin.ext (by simp only at hq ⊢; omega)
    rw [h1, h2]
  exact congrArg (· * (x1 (ix3 (0 : Fin 1) c s) : EReal)) (e.trans e2)

/-- The first part of the transposed gallery. -/
theorem part0 (x0 : Vec Ideal S48x64x256 .f32) (q : Fin 4096) (c : Fin 64) : ∃ q' : Fin 12288, q'.val = 0 * 4096 + q.val
    ∧ View.ld (Val := Elt Ideal) (e' := .bf16) (k0_pay12 x0) (Rect.unit (s := S12288x64) ![0, 0] S4096x64.size inb_S12288x64_S4096x64_0_0) (ix2 q c) = k0_pay12 x0 (ix2 q' c) :=
  ⟨⟨0 * 4096 + q.val, by omega⟩, rfl, by generalize k0_pay12 x0 = x; pointwise⟩

/-- The second part. -/
theorem part1 (x0 : Vec Ideal S48x64x256 .f32) (q : Fin 4096) (c : Fin 64) : ∃ q' : Fin 12288, q'.val = 1 * 4096 + q.val
    ∧ View.ld (Val := Elt Ideal) (e' := .bf16) (k0_pay12 x0) (Rect.unit (s := S12288x64) ![4096, 0] S4096x64.size inb_S12288x64_S4096x64_4096_0) (ix2 q c) = k0_pay12 x0 (ix2 q' c) :=
  ⟨⟨1 * 4096 + q.val, by omega⟩, rfl, by generalize k0_pay12 x0 = x; pointwise⟩

/-- The third part. -/
theorem part2 (x0 : Vec Ideal S48x64x256 .f32) (q : Fin 4096) (c : Fin 64) : ∃ q' : Fin 12288, q'.val = 2 * 4096 + q.val
    ∧ View.ld (Val := Elt Ideal) (e' := .bf16) (k0_pay12 x0) (Rect.unit (s := S12288x64) ![8192, 0] S4096x64.size inb_S12288x64_S4096x64_8192_0) (ix2 q c) = k0_pay12 x0 (ix2 q' c) :=
  ⟨⟨2 * 4096 + q.val, by omega⟩, rfl, by generalize k0_pay12 x0 = x; pointwise⟩

/-- One image's row of a three-part array, each part's rows given. -/
theorem pick {α : Type} (x y z : Fin 16 → α) (f : Fin 48 → α)
    (hx : ∀ (k : Fin 16) (g : Fin 48), g.val = 0 * 16 + k.val → x k = f g) (hy : ∀ (k : Fin 16) (g : Fin 48), g.val = 1 * 16 + k.val → y k = f g)
    (hz : ∀ (k : Fin 16) (g : Fin 48), g.val = 2 * 16 + k.val → z k = f g) (g : Fin 48) :
    (if h : g.val < 16 then x ⟨g.val, h⟩ else if h : g.val - 16 < 16 then y ⟨g.val - 16, h⟩ else z ⟨g.val - 16 - 16, by omega⟩) = f g := by
  split
  · exact hx _ _ (by simp only; omega)
  · split
    · exact hy _ _ (by simp only; omega)
    · exact hz _ _ (by simp only; omega)

/-- What one probe's three statistics are, when every part's maxima are the values `t1` and `t2`. -/
theorem pay1_at (v8 : FVec Ideal S1x256x256 .bf16) (v15 v19 v26 v30 : FVec Ideal S16x256 .bf16) (v34 v36 : FVec Ideal S16x256x256 .bf16)
    (t1 t2 : Fin 48 → Fin 256 → EReal) (g : Fin 48)
    (h1 : ∀ s, (if h : g.val < 16 then v15 (ix2 ⟨g.val, h⟩ s) else if h : g.val - 16 < 16 then v26 (ix2 ⟨g.val - 16, h⟩ s)
      else Finset.fold max (Ideal.ofBits .bf16 0xFF80#16) (fun r : Fin 256 => v36 (ix3 ⟨g.val - 16 - 16, by omega⟩ r s)) Finset.univ) = t1 g s)
    (h2 : ∀ s, (if h : g.val < 16 then v19 (ix2 ⟨g.val, h⟩ s) else if h : g.val - 16 < 16 then v30 (ix2 ⟨g.val - 16, h⟩ s)
      else Finset.fold max (Ideal.ofBits .bf16 0xFF80#16) (fun r : Fin 256 => (v34 (ix3 ⟨g.val - 16 - 16, by omega⟩ s r) : EReal) + (v8 (ix3 (0 : Fin 1) r s) : EReal)) Finset.univ) = t2 g s) :
    (k0_pay1 v8 v15 v19 v26 v30 v34 v36 x2 (ix3 (0 : Fin 1) g (0 : Fin 3)) : EReal) = ∑ s : Fin 256, (t1 g s + t2 g s) * (x2 (ix2 (0 : Fin 1) s) : EReal)
      ∧ (k0_pay1 v8 v15 v19 v26 v30 v34 v36 x2 (ix3 (0 : Fin 1) g (1 : Fin 3)) : EReal) = ∑ s : Fin 256, (t1 g s + t2 g s)
      ∧ (k0_pay1 v8 v15 v19 v26 v30 v34 v36 x2 (ix3 (0 : Fin 1) g (2 : Fin 3)) : EReal) = ∑ s : Fin 256, (t1 g s * t1 g s + t2 g s * t2 g s) := by
  simp only [← h1, ← h2]
  refine ⟨?_, ?_, ?_⟩ <;> pointwise [k0_pay1]

/-- The second part's maxima are computed as the first's. -/
theorem same19 (b : Vec Ideal S4096x64 .bf16) : k0_pay19 x1 x3 b = k0_pay16 x1 x3 b := rfl
/-- The same of the maxima over the other image's positions. -/
theorem same20 (b : Vec Ideal S4096x64 .bf16) : k0_pay20 x1 x3 b = k0_pay17 x1 x3 b := rfl

/-- So are the third's. -/
theorem last22 (b : Vec Ideal S4096x64 .bf16) (k : Fin 16) (s : Fin 256) :
    Finset.fold max (Ideal.ofBits .bf16 0xFF80#16) (fun r : Fin 256 => (k0_pay22 x1 x3 b (ix3 k r s) : EReal)) Finset.univ = k0_pay16 x1 x3 b (ix2 k s) := by
  symm
  have e : k0_pay22 x1 x3 b = addf (k0_pay15 x1 b) (broadcastTo S16x256x256 (k0_pay14 x3) broadcasts_S1x256x256_S16x256x256) := rfl
  rw [e]
  pointwise [k0_pay16]
/-- And of the third part's maxima over the other image's positions. -/
theorem last21 (b : Vec Ideal S4096x64 .bf16) (k : Fin 16) (s : Fin 256) :
    Finset.fold max (Ideal.ofBits .bf16 0xFF80#16) (fun r : Fin 256 => (k0_pay21 x1 b (ix3 k s r) : EReal) + (k0_pay14 x3 (ix3 (0 : Fin 1) r s) : EReal)) Finset.univ = k0_pay17 x1 x3 b (ix2 k s) := by
  symm
  have e : k0_pay21 x1 b = k0_pay15 x1 b := rfl
  rw [e]
  pointwise [k0_pay17]

/-- The three statistics of a probe against gallery image `g`, of the greatest scores of both images' positions: the sum weighted, the sum,
    and the sum of the squares. -/
theorem stat_at (hm : IsMask x3) (x0 : Vec Ideal S48x64x256 .f32) (p g : Fin 48) :
    (stat x1 x2 x3 (k0_pay12 x0) (ix3 (0 : Fin 1) g (0 : Fin 3)) : EReal)
        = ∑ s : Fin 256, (top1 (feat1 x1) (feat0 x0) p g s + top2 (feat1 x1) (feat0 x0) p g s) * (x2 (ix2 (0 : Fin 1) s) : EReal)
      ∧ (stat x1 x2 x3 (k0_pay12 x0) (ix3 (0 : Fin 1) g (1 : Fin 3)) : EReal)
        = ∑ s : Fin 256, (top1 (feat1 x1) (feat0 x0) p g s + top2 (feat1 x1) (feat0 x0) p g s)
      ∧ (stat x1 x2 x3 (k0_pay12 x0) (ix3 (0 : Fin 1) g (2 : Fin 3)) : EReal)
        = ∑ s : Fin 256, (top1 (feat1 x1) (feat0 x0) p g s * top1 (feat1 x1) (feat0 x0) p g s + top2 (feat1 x1) (feat0 x0) p g s * top2 (feat1 x1) (feat0 x0) p g s) := by
  have d (b : Vec Ideal S4096x64 .bf16) (o : ℕ)
      (hb : ∀ (q : Fin 4096) (c : Fin 64), ∃ q' : Fin 12288, q'.val = o * 4096 + q.val ∧ b (ix2 q c) = k0_pay12 x0 (ix2 q' c))
      (s : Fin 256) (k : Fin 16) (g' : Fin 48) (hg : g'.val = o * 16 + k.val) :
      (k0_pay16 x1 x3 b (ix2 k s) : EReal) = top1 (feat1 x1) (feat0 x0) p g' s := by
    refine (maxDown x1 x3 hm b k s).trans ?_
    unfold top1
    exact congrArg (Finset.sup (band (s.val / 16))) (funext fun r => part_at x1 x0 b o hb k g' p hg r s)
  have a (b : Vec Ideal S4096x64 .bf16) (o : ℕ)
      (hb : ∀ (q : Fin 4096) (c : Fin 64), ∃ q' : Fin 12288, q'.val = o * 4096 + q.val ∧ b (ix2 q c) = k0_pay12 x0 (ix2 q' c))
      (s : Fin 256) (k : Fin 16) (g' : Fin 48) (hg : g'.val = o * 16 + k.val) :
      (k0_pay17 x1 x3 b (ix2 k s) : EReal) = top2 (feat1 x1) (feat0 x0) p g' s := by
    refine (maxAcross x1 x3 hm b k s).trans ?_
    unfold top2
    exact congrArg (Finset.sup (band (s.val / 16))) (funext fun r => part_at x1 x0 b o hb k g' p hg s r)
  unfold stat
  refine pay1_at x2 _ _ _ _ _ _ _ (top1 (feat1 x1) (feat0 x0) p) (top2 (feat1 x1) (feat0 x0) p) g (fun s => ?_) (fun s => ?_)
  · refine pick (α := EReal) (fun k => k0_pay16 x1 x3 (View.ld (Val := Elt Ideal) (e' := .bf16) (k0_pay12 x0) (Rect.unit (s := S12288x64) ![0, 0] S4096x64.size inb_S12288x64_S4096x64_0_0)) (ix2 k s))
      (fun k => k0_pay19 x1 x3 (View.ld (Val := Elt Ideal) (e' := .bf16) (k0_pay12 x0) (Rect.unit (s := S12288x64) ![4096, 0] S4096x64.size inb_S12288x64_S4096x64_4096_0)) (ix2 k s))
      (fun k => Finset.fold max (Ideal.ofBits .bf16 0xFF80#16) (fun r : Fin 256 => k0_pay22 x1 x3 (View.ld (Val := Elt Ideal) (e' := .bf16) (k0_pay12 x0) (Rect.unit (s := S12288x64) ![8192, 0] S4096x64.size inb_S12288x64_S4096x64_8192_0)) (ix3 k r s)) Finset.univ)
      (fun g => top1 (feat1 x1) (feat0 x0) p g s) (d _ 0 (part0 x0) s)
      (fun k g' hg => (congrFun (same19 x1 x3 _) (ix2 k s)).trans (d _ 1 (part1 x0) s k g' hg)) (fun k g' hg => ?_) g
    exact (last22 x1 x3 _ k s).trans (d _ 2 (part2 x0) s k g' hg)
  · refine pick (α := EReal) (fun k => k0_pay17 x1 x3 (View.ld (Val := Elt Ideal) (e' := .bf16) (k0_pay12 x0) (Rect.unit (s := S12288x64) ![0, 0] S4096x64.size inb_S12288x64_S4096x64_0_0)) (ix2 k s))
      (fun k => k0_pay20 x1 x3 (View.ld (Val := Elt Ideal) (e' := .bf16) (k0_pay12 x0) (Rect.unit (s := S12288x64) ![4096, 0] S4096x64.size inb_S12288x64_S4096x64_4096_0)) (ix2 k s))
      (fun k => Finset.fold max (Ideal.ofBits .bf16 0xFF80#16) (fun r : Fin 256 => (k0_pay21 x1 (View.ld (Val := Elt Ideal) (e' := .bf16) (k0_pay12 x0) (Rect.unit (s := S12288x64) ![8192, 0] S4096x64.size inb_S12288x64_S4096x64_8192_0)) (ix3 k s r) : EReal) + (k0_pay14 x3 (ix3 (0 : Fin 1) r s) : EReal)) Finset.univ)
      (fun g => top2 (feat1 x1) (feat0 x0) p g s) (a _ 0 (part0 x0) s)
      (fun k g' hg => (congrFun (same20 x1 x3 _) (ix2 k s)).trans (a _ 1 (part1 x0) s k g' hg)) (fun k g' hg => ?_) g
    exact (last21 x1 x3 _ k s).trans (a _ 2 (part2 x0) s k g' hg)

end Cert.KernelIdeal.Hand

end
-- ==== Proof.KMask.lean ====
/- The kernel's mask: zero inside a position's window, minus infinity outside. -/
module

public import proofs.«01_k».proof.KernelIdeal
public import proofs.«01_k».proof.Proof.Spec

@[expose] public section

set_option maxRecDepth 16384

noncomputable section

namespace Cert.KernelIdeal.Hand

open Idealize.ShloMosaic
open Cert.KernelIdeal Cert.Hand

/-- The words of sixteen rows of the mask: zero in the window of the column's block, minus infinity elsewhere. -/
abbrev RowsOk (n : Fin 16) : Prop := ∀ (a : Fin 16) (b : Fin 256), lit0 ⟨(n.val * 16 + a.val) * 256 + b.val, by omega⟩
    = if lo (b.val / 16) * 16 ≤ n.val * 16 + a.val ∧ n.val * 16 + a.val < lo (b.val / 16) * 16 + 64 then 0x00000000#32 else 0xFF800000#32

set_option maxHeartbeats 0 in
/-- They are so in each group of sixteen rows; a group at a time is evaluated. -/
theorem rows_ok (n : Fin 16) : RowsOk n := by fin_cases n <;> decide +kernel

/-- The mask's words, by row and column. -/
theorem mask_bits (a b : Fin 256) : lit0 ⟨a.val * 256 + b.val, by omega⟩
    = if a ∈ band (b.val / 16) then 0x00000000#32 else 0xFF800000#32 := by
  have h := rows_ok ⟨a.val / 16, by omega⟩ ⟨a.val % 16, by omega⟩ b
  have e : a.val / 16 * 16 + a.val % 16 = a.val := by omega
  simp only [e] at h
  rw [h]
  simp only [mem_band]

end Cert.KernelIdeal.Hand

end
-- ==== Proof.KOut.lean ====
/- The idealized kernel's result, at an index, from its arguments. -/
module

public import proofs.«01_k».proof.Proof.KVal
public import proofs.«01_k».proof.Proof.KStat
public import proofs.«01_k».proof.Proof.KMask
public import proofs.«01_k».proof.Proof.Layer

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen
open Cert.Hand

/-! ## The last point's result -/

/-- The last point's result of statistics `d`, weights `x2` and scalars `x4`. -/
theorem epi_at (x2 : Vec Ideal S1x256 .f32) (x4 : Vec Ideal S1x5 .f32) (d : Vec Ideal S48x48x3 .f32)
    (t1 t2 : Fin 48 → Fin 48 → Fin 256 → EReal)
    (h0 : ∀ p g : Fin 48, (d (ix3 p g (0 : Fin 3)) : EReal) = ∑ s : Fin 256, (t1 p g s + t2 p g s) * (x2 (ix2 (0 : Fin 1) s) : EReal))
    (h1 : ∀ p g : Fin 48, (d (ix3 p g (1 : Fin 3)) : EReal) = ∑ s : Fin 256, (t1 p g s + t2 p g s))
    (h2 : ∀ p g : Fin 48, (d (ix3 p g (2 : Fin 3)) : EReal) = ∑ s : Fin 256, (t1 p g s * t1 p g s + t2 p g s * t2 p g s)) (p g : Fin 48) :
    (epi x2 x4 d (ix2 p g) : EReal)
      = outK (zK t1 t2 (fun s => (x2 (ix2 (0 : Fin 1) s) : EReal)) (x4 (ix2 (0 : Fin 1) (0 : Fin 5))) (x4 (ix2 (0 : Fin 1) (1 : Fin 5)))
          (x4 (ix2 (0 : Fin 1) (2 : Fin 5))) (Ideal.ofBits .f32 0x3727C5AC#32))
        (x4 (ix2 (0 : Fin 1) (3 : Fin 5))) (x4 (ix2 (0 : Fin 1) (4 : Fin 5))) (Ideal.ofBits .f32 0x3727C5AC#32) p g := by
  have e4 : (k0_pay4 (View.ld x4 (Rect.unit (s := S1x5) ![0, 1] S1x1.size inb_S1x5_S1x1_0_1)) : EReal) = x4 (ix2 (0 : Fin 1) (1 : Fin 5)) := by pointwise [k0_pay4]
  have e5 : (k0_pay5 (View.ld x4 (Rect.unit (s := S1x5) ![0, 2] S1x1.size inb_S1x5_S1x1_0_2)) : EReal) = x4 (ix2 (0 : Fin 1) (2 : Fin 5)) := by pointwise [k0_pay5]
  have e6 : (k0_pay6 (View.ld x4 (Rect.unit (s := S1x5) ![0, 3] S1x1.size inb_S1x5_S1x1_0_3)) : EReal) = x4 (ix2 (0 : Fin 1) (3 : Fin 5)) := by pointwise [k0_pay6]
  have e7 : (k0_pay7 (View.ld x4 (Rect.unit (s := S1x5) ![0, 4] S1x1.size inb_S1x5_S1x1_0_4)) : EReal) = x4 (ix2 (0 : Fin 1) (4 : Fin 5)) := by pointwise [k0_pay7]
  have e8 : (k0_pay8 d : EReal) = meanK t1 t2 := by
    have h : (k0_pay8 d : EReal) = Ideal.div (∑ p : Fin 48, ∑ g : Fin 48, (d (ix3 p g (1 : Fin 3)) : EReal)) (Ideal.ofBits .f32 0x49900000#32) := by pointwise [k0_pay8]
    rw [h, bits_count]; simp only [h1]; rfl
  have e9 : (k0_pay9 d (View.ld x4 (Rect.unit (s := S1x5) ![0, 0] S1x1.size inb_S1x5_S1x1_0_0)) : EReal) = (x4 (ix2 (0 : Fin 1) (0 : Fin 5)) : EReal)
      * Ideal.rsqrt (Ideal.div (∑ p : Fin 48, ∑ g : Fin 48, ∑ s : Fin 256, (t1 p g s * t1 p g s + t2 p g s * t2 p g s)) nAll - meanK t1 t2 * meanK t1 t2 + Ideal.ofBits .f32 0x3727C5AC#32) := by
    have h : (k0_pay9 d (View.ld x4 (Rect.unit (s := S1x5) ![0, 0] S1x1.size inb_S1x5_S1x1_0_0)) : EReal) = (x4 (ix2 (0 : Fin 1) (0 : Fin 5)) : EReal)
        * Ideal.rsqrt (Ideal.div (∑ p : Fin 48, ∑ g : Fin 48, (d (ix3 p g (2 : Fin 3)) : EReal)) (Ideal.ofBits .f32 0x49900000#32) - (k0_pay8 d : EReal) * (k0_pay8 d : EReal) + Ideal.ofBits .f32 0x3727C5AC#32) := by
      pointwise [k0_pay9]
      rfl
    rw [h, e8, bits_count]; simp only [h2]
  have e10 : (k0_pay10 x2 : EReal) = ∑ s : Fin 256, (x2 (ix2 (0 : Fin 1) s) : EReal) := by
    have h : (k0_pay10 x2 : EReal) = ∑ _k : Fin 1, ∑ s : Fin 256, (x2 (ix2 (0 : Fin 1) s) : EReal) := by pointwise [k0_pay10]
    rw [h, Fin.sum_univ_one]
  have e11 : (k0_pay11 d : EReal) = ((2 : ℝ) : EReal) * meanK t1 t2 := by
    have h : (k0_pay11 d : EReal) = Ideal.ofBits .f32 0x40000000#32 * (k0_pay8 d : EReal) := by pointwise [k0_pay11]
    rw [h, e8, bits_two]
  have e3 (p g : Fin 48) : (k0_pay3 d (ix2 p g) : EReal) = ∑ s : Fin 256, (t1 p g s + t2 p g s) * (x2 (ix2 (0 : Fin 1) s) : EReal) := by
    refine Eq.trans ?_ (h0 p g)
    pointwise [k0_pay3]
  have tail (v69 : FVec Ideal S48x48 .f32) (v77 v79 v81 v83 v98 v103 v104 : EReal) (z : Fin 48 → Fin 48 → EReal)
      (hz : ∀ p g : Fin 48, v98 * ((v69 (ix2 p g) : EReal) - v104 * v103) + Ideal.ofBits .f32 0x40000000#32 * (v77 * v103 + v79) = z p g) :
      (k0_pay2 (F := Ideal) v69 v77 v79 v81 v83 v98 v103 v104 (ix2 p g) : EReal) = outK z v81 v83 (Ideal.ofBits .f32 0x3727C5AC#32) p g := by
    unfold outK
    simp only [← hz]
    rw [show nPairs = Ideal.ofBits .f32 0x45100000#32 from bits_pairs.symm]
    pointwise [k0_pay2]
    rfl
  unfold epi
  refine (tail _ _ _ _ _ _ _ _ (zK t1 t2 (fun s => (x2 (ix2 (0 : Fin 1) s) : EReal)) (x4 (ix2 (0 : Fin 1) (0 : Fin 5))) (x4 (ix2 (0 : Fin 1) (1 : Fin 5)))
          (x4 (ix2 (0 : Fin 1) (2 : Fin 5))) (Ideal.ofBits .f32 0x3727C5AC#32)) fun p g => ?_).trans ?_
  · rw [e3, e4, e5, e9, e10, e11, bits_two]
    rfl
  · rw [e6, e7]

variable (m : (ℓ : Loc nD τ sig) → Buf (Elt Ideal) ℓ)

/-! ## The operands' blocks -/

/-- The gallery's block holds the gallery's features. -/
theorem gallery_at (c : Dev nD) (t : Fin cfg0.N) (g : Fin 48) (k : Fin 64) (r : Fin 256) : (iblk m c 0 t (ix3 g k r) : EReal)
    = m ((c : Thread nD τ).loc main_arg1) (ix4 g k ⟨r.val / 16, div16_lt r⟩ ⟨r.val % 16, mod16_lt r⟩) := by
  refine Eq.trans (b := (V m c main_v1 : FVec Ideal S48x64x256 .f32) (ix3 g k r)) ?_ ?_
  · blk_ext [iblk, idx t]
  · rw [V_v1]; pointwise

/-- The probe's block at point `t` holds probe `t`'s features. -/
theorem probe_at (c : Dev nD) (t : Fin cfg0.N) (p : Fin 48) (hp : p.val = t.val) (k : Fin 64) (r : Fin 256) : (iblk m c 1 t (ix3 (0 : Fin 1) k r) : EReal)
    = m ((c : Thread nD τ).loc main_arg0) (ix4 p k ⟨r.val / 16, div16_lt r⟩ ⟨r.val % 16, mod16_lt r⟩) := by
  refine Eq.trans (b := (V m c main_v0 : FVec Ideal S48x64x256 .f32) (ix3 p k r)) ?_ ?_
  · blk_ext [iblk, idx t]
  · rw [V_v0]; pointwise

/-- The weights' block is the weights. -/
theorem weights_at (c : Dev nD) (t : Fin cfg0.N) (s : Fin 256) : (iblk m c 2 t (ix2 (0 : Fin 1) s) : EReal)
    = m ((c : Thread nD τ).loc main_arg4) (ix2 (0 : Fin 1) s) := by
  blk_ext [iblk, V, idx t]

/-- The mask's block is the mask. -/
theorem mask_at (c : Dev nD) (t : Fin cfg0.N) : IsMask (iblk m c 3 t) := by
  intro a b
  refine Eq.trans (b := (V m c main_v2 : FVec Ideal S256x256 .bf16) (ix2 a b)) ?_ ?_
  · blk_ext [iblk, idx t]
  · rw [V_v2]
    show Ideal.ofBits .f32 (lit0 (S256x256.rowMajor (ix2 a b))) = _
    have e : S256x256.rowMajor (ix2 a b) = ⟨a.val * 256 + b.val, by show _ < 65536; omega⟩ := Fin.ext (Shape.rowMajor_val_two _)
    rw [show lit0 (S256x256.rowMajor (ix2 a b)) = lit0 ⟨a.val * 256 + b.val, by omega⟩ from congrArg lit0 e, mask_bits]
    split
    · exact bits_zero
    · exact bits_neg_inf

/-- The five scalars' block. -/
theorem scalars_at (c : Dev nD) (t : Fin cfg0.N) :
    (iblk m c 4 t (ix2 (0 : Fin 1) (0 : Fin 5)) : EReal) = m ((c : Thread nD τ).loc main_arg2) (ix1 (0 : Fin 1))
      ∧ (iblk m c 4 t (ix2 (0 : Fin 1) (1 : Fin 5)) : EReal) = m ((c : Thread nD τ).loc main_arg3) (ix1 (0 : Fin 1))
      ∧ (iblk m c 4 t (ix2 (0 : Fin 1) (2 : Fin 5)) : EReal) = m ((c : Thread nD τ).loc main_arg5) (ix1 (0 : Fin 1))
      ∧ (iblk m c 4 t (ix2 (0 : Fin 1) (3 : Fin 5)) : EReal) = m ((c : Thread nD τ).loc main_arg6) (ix1 (0 : Fin 1))
      ∧ (iblk m c 4 t (ix2 (0 : Fin 1) (4 : Fin 5)) : EReal) = m ((c : Thread nD τ).loc main_arg7) (ix1 (0 : Fin 1)) := by
  have h (k : Fin 5) : (iblk m c 4 t (ix2 (0 : Fin 1) k) : EReal) = (V m c main_v4 : FVec Ideal S1x5 .f32) (ix2 (0 : Fin 1) k) := by
    blk_ext [iblk, idx t]
  rw [h, h, h, h, h, V_v4]
  refine ⟨?_, ?_, ?_, ?_, ?_⟩ <;> pointwise

/-! ## The result -/

/-- A feature array by image, channel and flat position. -/
def feat (X : FVec Ideal S48x64x16x16 .f32) (p : Fin 48) (c : Fin 64) (s : Fin 256) : EReal :=
  X (ix4 p c ⟨s.val / 16, div16_lt s⟩ ⟨s.val % 16, mod16_lt s⟩)

/-- The probes' features. -/
abbrev probe (c : Dev nD) : Fin 48 → Fin 64 → Fin 256 → EReal := feat (m ((c : Thread nD τ).loc main_arg0))
/-- The gallery's features. -/
abbrev gallery (c : Dev nD) : Fin 48 → Fin 64 → Fin 256 → EReal := feat (m ((c : Thread nD τ).loc main_arg1))

/-- The scores from the blocks of point `t` are the scores from the arguments. -/
theorem score_blocks (c : Dev nD) (t t' : Fin cfg0.N) (p : Fin 48) (hp : p.val = t.val) (g : Fin 48) (r s : Fin 256) :
    score (feat1 (iblk m c 1 t)) (feat0 (iblk m c 0 t')) p g r s = score (probe m c) (gallery m c) p g r s := by
  unfold score feat1 feat0
  refine Finset.sum_congr rfl fun k _ => ?_
  rw [gallery_at, probe_at m c t p hp]
  rfl

/-- The three statistics of probe `p` and gallery image `g`, from the arguments. -/
theorem stats_at (c : Dev nD) (p g : Fin 48) :
    (stats m c (ix3 p g (0 : Fin 3)) : EReal) = ∑ s : Fin 256, (top1 (probe m c) (gallery m c) p g s + top2 (probe m c) (gallery m c) p g s)
        * (m ((c : Thread nD τ).loc main_arg4) (ix2 (0 : Fin 1) s) : EReal)
      ∧ (stats m c (ix3 p g (1 : Fin 3)) : EReal) = ∑ s : Fin 256, (top1 (probe m c) (gallery m c) p g s + top2 (probe m c) (gallery m c) p g s)
      ∧ (stats m c (ix3 p g (2 : Fin 3)) : EReal) = ∑ s : Fin 256, (top1 (probe m c) (gallery m c) p g s * top1 (probe m c) (gallery m c) p g s
        + top2 (probe m c) (gallery m c) p g s * top2 (probe m c) (gallery m c) p g s) := by
  have h := stat_at (iblk m c 1 ⟨p.val, lt_N p.isLt⟩) (iblk m c 2 ⟨p.val, lt_N p.isLt⟩) (iblk m c 3 ⟨p.val, lt_N p.isLt⟩)
    (mask_at m c _) (iblk m c 0 ⟨0, lt_N (by omega)⟩) p g
  have e1 (s : Fin 256) : top1 (feat1 (iblk m c 1 ⟨p.val, lt_N p.isLt⟩)) (feat0 (iblk m c 0 ⟨0, lt_N (by omega)⟩)) p g s = top1 (probe m c) (gallery m c) p g s :=
    congrArg (Finset.sup (band (s.val / 16))) (funext fun r => score_blocks m c ⟨p.val, lt_N p.isLt⟩ ⟨0, lt_N (by omega)⟩ p rfl g r s)
  have e2 (s : Fin 256) : top2 (feat1 (iblk m c 1 ⟨p.val, lt_N p.isLt⟩)) (feat0 (iblk m c 0 ⟨0, lt_N (by omega)⟩)) p g s = top2 (probe m c) (gallery m c) p g s :=
    congrArg (Finset.sup (band (s.val / 16))) (funext fun r => score_blocks m c ⟨p.val, lt_N p.isLt⟩ ⟨0, lt_N (by omega)⟩ p rfl g s r)
  simp only [e1, e2, weights_at] at h
  exact h

/-- The kernel's result at probe `p`, gallery image `g`, from the arguments. -/
theorem result_at (c : Dev nD) (p g : Fin 48) : (result m c tLast (ix2 p g) : EReal)
    = outK (zK (top1 (probe m c) (gallery m c)) (top2 (probe m c) (gallery m c)) (fun s => (m ((c : Thread nD τ).loc main_arg4) (ix2 (0 : Fin 1) s) : EReal))
          (m ((c : Thread nD τ).loc main_arg2) (ix1 (0 : Fin 1))) (m ((c : Thread nD τ).loc main_arg3) (ix1 (0 : Fin 1)))
          (m ((c : Thread nD τ).loc main_arg5) (ix1 (0 : Fin 1))) (Ideal.ofBits .f32 0x3727C5AC#32))
        (m ((c : Thread nD τ).loc main_arg6) (ix1 (0 : Fin 1))) (m ((c : Thread nD τ).loc main_arg7) (ix1 (0 : Fin 1))) (Ideal.ofBits .f32 0x3727C5AC#32) p g := by
  have e : (fun s : Fin 256 => (iblk m c 2 tLast (ix2 (0 : Fin 1) s) : EReal)) = fun s => (m ((c : Thread nD τ).loc main_arg4) (ix2 (0 : Fin 1) s) : EReal) :=
    funext fun s => weights_at m c tLast s
  obtain ⟨s0, s1, s2, s3, s4⟩ := scalars_at m c tLast
  unfold result
  refine (epi_at (iblk m c 2 tLast) (iblk m c 4 tLast) (stats m c) (top1 (probe m c) (gallery m c)) (top2 (probe m c) (gallery m c))
    (fun p g => ?_) (fun p g => (stats_at m c p g).2.1) (fun p g => (stats_at m c p g).2.2) p g).trans ?_
  · simp only [weights_at]; exact (stats_at m c p g).1
  · rw [e, s0, s1, s2, s3, s4]

end Cert.KernelIdeal.Hand

end
-- ==== Proof.RTab.lean ====
/- The reference's scores, its window table, its two gathers and its two maxima, read at an index. -/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Value
open Cert.Hand

/-- A feature array by image, channel and flat position. -/
def feat (X : FVec Ideal S48x64x16x16 .f32) (p : Fin 48) (c : Fin 64) (s : Fin 256) : EReal :=
  X (ix4 p c ⟨s.val / 16, div16_lt s⟩ ⟨s.val % 16, mod16_lt s⟩)

/-- A feature at the flat position of row `a`, column `b`. -/
theorem feat_flat (X : FVec Ideal S48x64x16x16 .f32) (p : Fin 48) (c : Fin 64) (a b : Fin 16) :
    feat X p c (flat a b) = X (ix4 p c a b) := by
  have ha : (⟨(flat a b).val / 16, div16_lt _⟩ : Fin 16) = a := Fin.ext (by simp only [flat]; omega)
  have hb : (⟨(flat a b).val % 16, mod16_lt _⟩ : Fin 16) = b := Fin.ext (by simp only [flat]; omega)
  unfold feat
  rw [ha, hb]

/-- The scores of the reference, at both positions' rows and columns. -/
theorem v4_at (V0 : Valuation τ sig (Elt Ideal)) (p g : Fin 48) (a b e d : Fin 16) :
    (res_main_v4 V0 : FVec Ideal S48x48x16x16x16x16 .f32) (ix6 p g a b e d)
      = score (feat (V0 (Proc.devRef .tc main_arg0))) (feat (V0 (Proc.devRef .tc main_arg1))) p g (flat a b) (flat e d) := by
  unfold score
  simp only [feat_flat]
  pointwise [res_main_v4]

/-! ## The window table -/

/-- The window table: row `i` lists the four blocks from `lo i` on. -/
theorem table : ∀ (i : Fin 16) (k : Fin 4), lit0 (S16x4.rowMajor (ix2 i k)) = BitVec.ofNat 32 (lo i.val + k.val) := by
  decide +kernel

/-- No entry of the window table is negative. -/
theorem table_select : ∀ (i : Fin 16) (k : Fin 4), Scalar.select
      (IntOp.cmpi CmpIPredicate.slt (BitVec.ofNat 32 (lo i.val + k.val)) 0#32)
      (IntOp.addi (BitVec.ofNat 32 (lo i.val + k.val)) 16#32) (BitVec.ofNat 32 (lo i.val + k.val)) = BitVec.ofNat 32 (lo i.val + k.val) := by
  decide +kernel

/-- Every entry is in range. -/
theorem table_range : ∀ (i : Fin 16) (k : Fin 4), IntOp.andi (IntOp.andi (IntOp.cmpi CmpIPredicate.sge (BitVec.ofNat 32 (lo i.val + k.val)) 0#32)
      (IntOp.cmpi CmpIPredicate.sle (BitVec.ofNat 32 (lo i.val + k.val)) 15#32)) 1#1 = 1#1 := by
  decide +kernel

/-- The table's word, read as a number. -/
theorem table_toNat : ∀ (i : Fin 16) (k : Fin 4), (BitVec.ofNat 32 (lo i.val + k.val)).toInt.toNat = lo i.val + k.val := by
  decide +kernel

/-- The wrapped table is the table. -/
theorem table_wrapped (V0 : Valuation τ sig (Elt Ideal)) (i : Fin 16) (k : Fin 4) (l : Fin 1) :
    res_main_call0_v5 V0 (ix3 i k l) = BitVec.ofNat 32 (lo i.val + k.val) := by
  pointwise [res_main_call0_v5, res_main_c]
  rw [show lit0 (S16x4.rowMajor (ix2 _ _)) = BitVec.ofNat 32 (lo i.val + k.val) from table i k]
  exact table_select i k

/-- The two wrapped tables are one. -/
theorem wrapped_eq (V0 : Valuation τ sig (Elt Ideal)) : res_main_call1_v5 V0 = res_main_call0_v5 V0 := rfl

/-! ## The gathers -/

/-- The first gather takes, at block `i`, the row the start indices name. -/
theorem gather_rows (x : FVec Ideal S16x48x48x16x16x16 .f32) (idx : IVec S16x4x1 32) (i : Fin 16) (p g : Fin 48) (k : Fin 4) (a d : Fin 16)
    (v : Fin 16) (hv : (idx (ix3 i k 0)).toInt.toNat = v.val) :
    Host.gather gather_S16x48x48x16x16x16_S16x4x1_S16x48x48x4x16x16_1245_3_0_0_3_2_1484811616 x idx (ix6 i p g k a d) = x (ix6 i p g v a d) := by
  unfold Host.gather
  refine congrArg x (funext fun q => Fin.ext ?_)
  match q with
  | ⟨0, _⟩ => exact Nat.zero_add _
  | ⟨1, _⟩ => exact Nat.zero_add _
  | ⟨2, _⟩ => exact Nat.zero_add _
  | ⟨3, _⟩ =>
    have e : (gather_S16x48x48x16x16x16_S16x4x1_S16x48x48x4x16x16_1245_3_0_0_3_2_1484811616).siIdx (ix6 i p g k a d) ⟨0, by decide⟩ = ix3 i k 0 := by
      funext b; refine Fin.ext ?_
      match b with
      | ⟨0, _⟩ => rfl
      | ⟨1, _⟩ => rfl
      | ⟨2, _⟩ => rfl
    have h : min (idx ((gather_S16x48x48x16x16x16_S16x4x1_S16x48x48x4x16x16_1245_3_0_0_3_2_1484811616).siIdx (ix6 i p g k a d) ⟨0, by decide⟩)).toInt.toNat 15 + 0 + 0 = v.val := by
      rw [e, hv]; omega
    exact h
  | ⟨4, _⟩ => exact Nat.zero_add _
  | ⟨5, _⟩ => exact Nat.zero_add _

/-- The second gather takes, at block `i`, the column block the start indices name. -/
theorem gather_cols (x : FVec Ideal S16x48x48x16x16x16 .f32) (idx : IVec S16x4x1 32) (i : Fin 16) (p g : Fin 48) (k : Fin 4) (a d : Fin 16)
    (v : Fin 16) (hv : (idx (ix3 i k 0)).toInt.toNat = v.val) :
    Host.gather gather_S16x48x48x16x16x16_S16x4x1_S16x48x48x16x4x16_1235_4_0_0_4_2_1484816116 x idx (ix6 i p g a k d) = x (ix6 i p g a v d) := by
  unfold Host.gather
  refine congrArg x (funext fun q => Fin.ext ?_)
  match q with
  | ⟨0, _⟩ => exact Nat.zero_add _
  | ⟨1, _⟩ => exact Nat.zero_add _
  | ⟨2, _⟩ => exact Nat.zero_add _
  | ⟨3, _⟩ => exact Nat.zero_add _
  | ⟨4, _⟩ =>
    have e : (gather_S16x48x48x16x16x16_S16x4x1_S16x48x48x16x4x16_1235_4_0_0_4_2_1484816116).siIdx (ix6 i p g a k d) ⟨0, by decide⟩ = ix3 i k 0 := by
      funext b; refine Fin.ext ?_
      match b with
      | ⟨0, _⟩ => rfl
      | ⟨1, _⟩ => rfl
      | ⟨2, _⟩ => rfl
    have h : min (idx ((gather_S16x48x48x16x16x16_S16x4x1_S16x48x48x16x4x16_1235_4_0_0_4_2_1484816116).siIdx (ix6 i p g a k d) ⟨0, by decide⟩)).toInt.toNat 15 + 0 + 0 = v.val := by
      rw [e, hv]; omega
    exact h
  | ⟨5, _⟩ => exact Nat.zero_add _

/-! ## The maxima over two axes -/

/-- The source positions of the first maximum at `(i, p, g, d)`: every row and column of the window. -/
theorem fiber_rows (h : S16x48x48x4x16x16.ReducesTo [3, 4] S16x48x48x16) (i : Fin 16) (p g : Fin 48) (d : Fin 16) (y : S16x48x48x4x16x16.Idx) :
    h.drop y = ix4 i p g d ↔ ∃ k : Fin 4 × Fin 16, ix6 i p g k.1 k.2 d = y := by
  constructor
  · intro e
    refine ⟨(y 3, y 4), ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => rfl
    | ⟨5, _⟩ => exact (congrArg Fin.val (congrFun e 3)).symm
  · rintro ⟨k, rfl⟩
    funext b
    apply Fin.ext
    match b with
    | ⟨0, _⟩ => rfl
    | ⟨1, _⟩ => rfl
    | ⟨2, _⟩ => rfl
    | ⟨3, _⟩ => rfl

/-- The source positions of the second maximum. -/
theorem fiber_cols (h : S16x48x48x16x4x16.ReducesTo [4, 5] S16x48x48x16) (i : Fin 16) (p g : Fin 48) (d : Fin 16) (y : S16x48x48x16x4x16.Idx) :
    h.drop y = ix4 i p g d ↔ ∃ k : Fin 4 × Fin 16, ix6 i p g d k.1 k.2 = y := by
  constructor
  · intro e
    refine ⟨(y 4, y 5), ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl

/-- The maximum over the third and fourth axes, at an index. -/
theorem reduce_rows (x : FVec Ideal S16x48x48x4x16x16 .f32) (init : FVec Ideal S_ .f32) (h : S16x48x48x4x16x16.ReducesTo [3, 4] S16x48x48x16) (hu : 0 < S_.numel)
    (i : Fin 16) (p g : Fin 48) (d : Fin 16) :
    Host.reduce (FloatOps.maximumf (F := Ideal) (φ := .f32)) x init h hu (ix4 i p g d)
      = (Finset.univ : Finset (Fin 4 × Fin 16)).fold max (init (Shape.Idx.first hu)) (fun k => x (ix6 i p g k.1 k.2 d)) := by
  rw [Host.reduce_eq_fold]
  exact Finset.fold_filter_eq_fold_of_fiber max _ (fun k : Fin 4 × Fin 16 => ix6 i p g k.1 k.2 d)
    (fun _ _ e => Prod.ext (congrFun e 3) (congrFun e 4)) (fiber_rows h i p g d) _ x

/-- The maximum over the last two axes, at an index. -/
theorem reduce_cols (x : FVec Ideal S16x48x48x16x4x16 .f32) (init : FVec Ideal S_ .f32) (h : S16x48x48x16x4x16.ReducesTo [4, 5] S16x48x48x16) (hu : 0 < S_.numel)
    (i : Fin 16) (p g : Fin 48) (d : Fin 16) :
    Host.reduce (FloatOps.maximumf (F := Ideal) (φ := .f32)) x init h hu (ix4 i p g d)
      = (Finset.univ : Finset (Fin 4 × Fin 16)).fold max (init (Shape.Idx.first hu)) (fun k => x (ix6 i p g d k.1 k.2)) := by
  rw [Host.reduce_eq_fold]
  exact Finset.fold_filter_eq_fold_of_fiber max _ (fun k : Fin 4 × Fin 16 => ix6 i p g d k.1 k.2)
    (fun _ _ e => Prod.ext (congrFun e 4) (congrFun e 5)) (fiber_cols h i p g d) _ x

end Cert.ReferenceIdeal.Hand

end
-- ==== Proof.RVal.lean ====
/- The reference's array of rows, at an index: row `2 (48 p + g)` holds the greatest scores of the probe's positions, the next row
   those of the gallery image's positions. -/
module

public import proofs.«01_k».proof.Proof.RTab

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Value
open Cert.Hand

/-- Whether each entry of the table is in range, as the reference tests it. -/
abbrev inRange (V0 : Valuation τ sig (Elt Ideal)) : IVec S16x4 1 :=
  Host.reduce IntOp.andi (andi (cmpi .sge (res_main_call0_v5 V0) (broadcastInDim S16x4x1 ![] bcast_S_S16x4x1 (constantI S_ 32 0#32))) (cmpi .sle (res_main_call0_v5 V0) (broadcastInDim S16x4x1 ![0, 1, 2] bcast_S1x1x1_S16x4x1_0_1_2 (broadcastInDim S1x1x1 ![2] bcast_S1_S1x1x1_2 (constantI S1 32 15#32))))) (constantI S_ 1 1#1) reducesTo_S16x4x1_S16x4_d2 h_S_

/-- The indices dropped to `(i, k)` along an axis of length one. -/
theorem fiber_one (h : S16x4x1.ReducesTo [2] S16x4) (i : Fin 16) (k : Fin 4) (y : S16x4x1.Idx) :
    h.drop y = ix2 i k ↔ ∃ l : Fin 1, ix3 i k l = y := by
  constructor
  · intro e
    refine ⟨y 2, ?_⟩
    funext a; apply Fin.ext
    match a with
    | ⟨0, _⟩ => exact (congrArg Fin.val (congrFun e 0)).symm
    | ⟨1, _⟩ => exact (congrArg Fin.val (congrFun e 1)).symm
    | ⟨2, _⟩ => rfl
  · rintro ⟨k, rfl⟩
    funext b
    apply Fin.ext
    match b with
    | ⟨0, _⟩ => rfl
    | ⟨1, _⟩ => rfl

/-- Every entry is in range. -/
theorem inRange_at (V0 : Valuation τ sig (Elt Ideal)) (i : Fin 16) (k : Fin 4) : inRange V0 (ix2 i k) = 1#1 := by
  unfold inRange
  rw [Host.reduce_eq_fold]
  refine (Finset.fold_filter_eq_fold_of_fiber IntOp.andi _ (fun l : Fin 1 => ix3 i k l) (fun _ _ _ => Subsingleton.elim _ _) (fiber_one _ i k) _ _).trans ?_
  rw [show (Finset.univ : Finset (Fin 1)) = {0} from rfl, Finset.fold_singleton]
  show IntOp.andi (IntOp.andi (IntOp.cmpi .sge (res_main_call0_v5 V0 (ix3 i k 0)) 0#32) (IntOp.cmpi .sle (res_main_call0_v5 V0 (ix3 i k 0)) 15#32)) 1#1 = 1#1
  rw [table_wrapped]
  exact table_range i k

variable (V0 : Valuation τ sig (Elt Ideal))

/-- The probes' features. -/
abbrev probe : Fin 48 → Fin 64 → Fin 256 → EReal := feat (V0 (Proc.devRef .tc main_arg0))
/-- The gallery's features. -/
abbrev gallery : Fin 48 → Fin 64 → Fin 256 → EReal := feat (V0 (Proc.devRef .tc main_arg1))

/-- The maxima over the rows of each probe position's window. -/
abbrev maxRows : FVec Ideal S16x48x48x16 .f32 :=
  Host.reduce FloatOps.maximumf (select (broadcastInDim S16x48x48x4x16x16 ![0, 3] bcast_S16x4_S16x48x48x4x16x16_0_3 (inRange V0)) (Host.gather gather_S16x48x48x16x16x16_S16x4x1_S16x48x48x4x16x16_1245_3_0_0_3_2_1484811616 (transpose S16x48x48x16x16x16 [4, 0, 1, 2, 3, 5] (res_main_v4 V0) transposes_S48x48x16x16x16x16_S16x48x48x16x16x16_4_0_1_2_3_5) (res_main_call0_v5 V0)) (broadcastInDim S16x48x48x4x16x16 ![] bcast_S_S16x48x48x4x16x16 (constant S_ .f32 0x7FC00000#32))) (constant S_ .f32 0xFF800000#32) reducesTo_S16x48x48x4x16x16_S16x48x48x16_d3_4 h_S_

/-- The maxima over the window of each gallery position. -/
abbrev maxCols : FVec Ideal S16x48x48x16 .f32 :=
  Host.reduce FloatOps.maximumf (select (broadcastInDim S16x48x48x16x4x16 ![0, 4] bcast_S16x4_S16x48x48x16x4x16_0_4 (inRange V0)) (Host.gather gather_S16x48x48x16x16x16_S16x4x1_S16x48x48x16x4x16_1235_4_0_0_4_2_1484816116 (transpose S16x48x48x16x16x16 [2, 0, 1, 3, 4, 5] (res_main_v4 V0) transposes_S48x48x16x16x16x16_S16x48x48x16x16x16_2_0_1_3_4_5) (res_main_call0_v5 V0)) (broadcastInDim S16x48x48x16x4x16 ![] bcast_S_S16x48x48x16x4x16 (constant S_ .f32 0x7FC00000#32))) (constant S_ .f32 0xFF800000#32) reducesTo_S16x48x48x16x4x16_S16x48x48x16_d4_5 h_S_

/-- Where the condition holds a selection takes its first argument. -/
theorem select_one {s : Shape} (c : IVec s 1) (x y : FVec Ideal s .f32) (j : s.Idx) (h : c j = 1#1) : select c x y j = x j := by
  show Scalar.select (c j) _ _ = _
  rw [h]
  rfl

/-- For each probe position, the greatest score over the gallery's positions in its window. -/
theorem maxRows_at (i : Fin 16) (p g : Fin 48) (d : Fin 16) :
    maxRows V0 (ix4 i p g d) = (band i.val).sup fun r => score (probe V0) (gallery V0) p g r (flat i d) := by
  unfold maxRows
  rw [reduce_rows, ← fold_blocks]
  rw [show (constant (F := Ideal) S_ .f32 0xFF800000#32 : FVec Ideal S_ .f32) (Shape.Idx.first h_S_) = (⊥ : EReal) from bits_neg_inf]
  refine congrArg (fun f => Finset.fold max (⊥ : EReal) f Finset.univ) (funext fun k => ?_)
  have e : (broadcastInDim S16x48x48x4x16x16 ![0, 3] bcast_S16x4_S16x48x48x4x16x16_0_3 (inRange V0)) (ix6 i p g k.1 k.2 d) = 1#1 := (by pointwise : _ = inRange V0 (ix2 i k.1)).trans (inRange_at V0 i k.1)
  refine (select_one _ _ _ _ e).trans ?_
  rw [gather_rows _ _ i p g k.1 k.2 d ⟨lo i.val + k.1.val, lo_add_lt _ _⟩ (by rw [table_wrapped]; exact table_toNat i k.1)]
  exact (by pointwise : _ = (res_main_v4 V0 : FVec Ideal S48x48x16x16x16x16 .f32) (ix6 p g ⟨lo i.val + k.1.val, lo_add_lt _ _⟩ k.2 i d)).trans (v4_at V0 p g _ _ i d)

/-- For each gallery position, the greatest score over the probe's positions in its window. -/
theorem maxCols_at (i : Fin 16) (p g : Fin 48) (d : Fin 16) :
    maxCols V0 (ix4 i p g d) = (band i.val).sup fun s => score (probe V0) (gallery V0) p g (flat i d) s := by
  unfold maxCols
  rw [reduce_cols, ← fold_blocks]
  rw [show (constant (F := Ideal) S_ .f32 0xFF800000#32 : FVec Ideal S_ .f32) (Shape.Idx.first h_S_) = (⊥ : EReal) from bits_neg_inf]
  refine congrArg (fun f => Finset.fold max (⊥ : EReal) f Finset.univ) (funext fun k => ?_)
  have e : (broadcastInDim S16x48x48x16x4x16 ![0, 4] bcast_S16x4_S16x48x48x16x4x16_0_4 (inRange V0)) (ix6 i p g d k.1 k.2) = 1#1 := (by pointwise : _ = inRange V0 (ix2 i k.1)).trans (inRange_at V0 i k.1)
  refine (select_one _ _ _ _ e).trans ?_
  rw [gather_cols _ _ i p g k.1 d k.2 ⟨lo i.val + k.1.val, lo_add_lt _ _⟩ (by rw [table_wrapped]; exact table_toNat i k.1)]
  exact (by pointwise : _ = (res_main_v4 V0 : FVec Ideal S48x48x16x16x16x16 .f32) (ix6 p g i d ⟨lo i.val + k.1.val, lo_add_lt _ _⟩ k.2)).trans (v4_at V0 p g i d _ _)

/-- The two halves of a pair's rows put side by side and read as rows. -/
theorem rows_of (x y : FVec Ideal S16x48x48x16 .f32) (n : Fin 4608) (z : Fin 1) (s : Fin 256) :
    (shapeCast S4608x1x256 (concatenate S48x48x512 2
        [⟨S48x48x256, shapeCast S48x48x256 (transpose S48x48x16x16 [1, 2, 0, 3] x transposes_S16x48x48x16_S48x48x16x16_1_2_0_3) shapeCasts_S48x48x16x16_S48x48x256⟩,
         ⟨S48x48x256, shapeCast S48x48x256 (transpose S48x48x16x16 [1, 2, 0, 3] y transposes_S16x48x48x16_S48x48x16x16_1_2_0_3) shapeCasts_S48x48x16x16_S48x48x256⟩]
        concatenates_S48x48x256_S48x48x256_S48x48x512_d2) shapeCasts_S48x48x512_S4608x1x256) (ix3 n z s)
      = if n.val % 2 = 0 then x (ix4 ⟨s.val / 16, div16_lt s⟩ ⟨n.val / 96, by omega⟩ ⟨n.val / 2 % 48, by omega⟩ ⟨s.val % 16, mod16_lt s⟩)
        else y (ix4 ⟨s.val / 16, div16_lt s⟩ ⟨n.val / 96, by omega⟩ ⟨n.val / 2 % 48, by omega⟩ ⟨s.val % 16, mod16_lt s⟩) := by
  pointwise
  have hs := s.isLt
  by_cases h : n.val % 2 = 0
  · rw [dif_pos (by omega), if_pos h]
    simp only [h, Nat.zero_mul, Nat.zero_add]
  · have h1 : n.val % 2 = 1 := by omega
    rw [dif_neg (by omega), if_neg h]
    simp only [h1, Nat.one_mul, Nat.add_sub_cancel_left]

/-- The rows of the reference. -/
theorem v16_at (n : Fin 4608) (z : Fin 1) (s : Fin 256) :
    (res_main_v16 V0 : FVec Ideal S4608x1x256 .f32) (ix3 n z s)
      = if n.val % 2 = 0 then top1 (probe V0) (gallery V0) ⟨n.val / 96, by omega⟩ ⟨n.val / 2 % 48, by omega⟩ s
        else top2 (probe V0) (gallery V0) ⟨n.val / 96, by omega⟩ ⟨n.val / 2 % 48, by omega⟩ s := by
  have e : flat ⟨s.val / 16, div16_lt s⟩ ⟨s.val % 16, mod16_lt s⟩ = s := Fin.ext (by simp only [flat]; omega)
  refine (rows_of (maxRows V0) (maxCols V0) n z s).trans ?_
  rw [maxRows_at, maxCols_at, e]
  rfl

end Cert.ReferenceIdeal.Hand

end
-- ==== Proof.ROut.lean ====
/- The reference's layer and its result, at an index. -/
module

public import proofs.«01_k».proof.Proof.RVal
public import proofs.«01_k».proof.Proof.Layer

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Value
open Cert.Hand

variable (V0 : Valuation τ sig (Elt Ideal))

/-- Every position of the rows lies under the one result of their sum. -/
theorem fiber_all (h : S4608x1x256.ReducesTo [0, 2] S1) (j : S1.Idx) (y : S4608x1x256.Idx) :
    h.drop y = j ↔ ∃ k : Fin 4608 × Fin 256, ix3 k.1 (0 : Fin 1) k.2 = y := by
  constructor
  · intro e
    refine ⟨(y 0, y 2), ?_⟩
    funext a; apply Fin.ext
    match a with
    | ⟨0, _⟩ => rfl
    | ⟨1, _⟩ => have h1 : (y 1).val < 1 := (y 1).isLt; show 0 = (y 1).val; omega
    | ⟨2, _⟩ => rfl
  · rintro ⟨k, rfl⟩
    funext b
    apply Fin.ext
    match b with
    | ⟨0, hb⟩ => have h1 : (j 0).val < 1 := (j 0).isLt; show 0 = (j 0).val; omega

/-- The sum over all rows and positions. -/
theorem sum_all (x : FVec Ideal S4608x1x256 .f32) : Host.reduceAdd x (constant S_ .f32 0x00000000#32) reducesTo_S4608x1x256_S1_d0_2 h_S_
    = fun _ => (∑ n : Fin 4608, ∑ s : Fin 256, (x (ix3 n (0 : Fin 1) s) : EReal) : EReal) := by
  funext j
  rw [Host.reduceAdd_apply, Ideal.hostReduceAdd_def]
  unfold Ideal.hostReduceAdd
  rw [show (constant (F := Ideal) S_ .f32 0x00000000#32 : FVec Ideal S_ .f32) (Shape.Idx.first h_S_) = (0 : EReal) from bits_zero, zero_add, ← Fintype.sum_prod_type']
  exact Finset.sum_filter_eq_sum_of_fiber _ (fun k : Fin 4608 × Fin 256 => ix3 k.1 (0 : Fin 1) k.2)
    (fun _ _ e => Prod.ext (congrFun e 0) (congrFun e 2)) (fiber_all _ j) x

/-- The integer zero read as a float. -/
theorem zero_word : (FloatOps.sitofp (F := Ideal) .f32 (0#32) : EReal) = 0 := by
  show (((0#32 : BitVec 32).toInt : ℝ) : EReal) = 0
  simp

/-- The number of addends less no correction. -/
theorem count_sub : Ideal.ofBits .f32 0x49900000#32 - (FloatOps.sitofp (F := Ideal) .f32 (0#32) : EReal) = nAll := by
  rw [bits_count, zero_word, sub_zero]
/-- The reference's count of pairs, less its correction of zero. -/
theorem pairs_sub : Ideal.ofBits .f32 0x45100000#32 - (FloatOps.sitofp (F := Ideal) .f32 (0#32) : EReal) = nPairs := by
  rw [bits_pairs, zero_word, sub_zero]

/-- The count of entries is positive. -/
theorem count_pos : (0 : EReal) < nAll := EReal.coe_pos.mpr (by norm_num)
/-- The count of pairs is positive. -/
theorem pairs_pos : (0 : EReal) < nPairs := EReal.coe_pos.mpr (by norm_num)

/-- The reference's layer is `zR` of its rows. -/
theorem v43_at (q : Fin 2304) (z : Fin 1) : (res_main_v43 V0 : FVec Ideal S2304x1 .f32) (ix2 q z)
    = zR (fun s => (V0 (Proc.devRef .tc main_arg4) (ix2 (0 : Fin 1) s) : EReal)) (V0 (Proc.devRef .tc main_arg2) (ix1 (0 : Fin 1)))
        (V0 (Proc.devRef .tc main_arg3) (ix1 (0 : Fin 1))) (V0 (Proc.devRef .tc main_arg5) (ix1 (0 : Fin 1))) (Ideal.ofBits .f32 0x3727C5AC#32)
        (fun n s => (res_main_v16 V0 (ix3 n (0 : Fin 1) s) : EReal)) q := by
  unfold res_main_v43 res_main_call2_v5 res_main_call2_v8
  rw [sum_all, sum_all]
  pointwise
  rw [count_sub, bits_count, if_pos count_pos]
  rfl

/-- The rows of the reference are the greatest scores of each pair's positions. -/
theorem v16_rows : (fun (n : Fin 4608) (s : Fin 256) => (res_main_v16 V0 (ix3 n (0 : Fin 1) s) : EReal))
    = rows (top1 (probe V0) (gallery V0)) (top2 (probe V0) (gallery V0)) :=
  funext fun n => funext fun s => v16_at V0 n 0 s

/-- The reference's result. -/
def outcome : FVec Ideal S48x48 .f32 := shapeCast _ (Host.divf (broadcastInDim S2304x1 ![] bcast_S_S2304x1 (constant S_ .f32 0x3F800000#32)) (addf (broadcastInDim S2304x1 ![] bcast_S_S2304x1 (constant S_ .f32 0x3F800000#32)) (Host.exp (Host.negf (addf (mulf (mulf (broadcastInDim S2304x1 ![0, 1] bcast_S1x1_S2304x1_0_1 (broadcastInDim S1x1 ![1] bcast_S1_S1x1_1 (V0 (Proc.devRef .tc main_arg6)))) (subf (res_main_v43 V0) (broadcastInDim S2304x1 ![0, 1] bcast_S1x1_S2304x1_0_1 (Host.divf (broadcastInDim S1x1 ![1] bcast_S1_S1x1_1 (Host.reduceAdd (res_main_v43 V0) (constant S_ .f32 0x00000000#32) reducesTo_S2304x1_S1_d0 h_S_)) (broadcastInDim S1x1 ![] bcast_S_S1x1 (constant S_ .f32 0x45100000#32)))))) (broadcastInDim S2304x1 ![0, 1] bcast_S1x1_S2304x1_0_1 (Host.rsqrt (addf (select (broadcastInDim S1x1 ![] bcast_S_S1x1 (cmpf .ogt (res_main_call3_v8 V0) (constant S_ .f32 0x00000000#32))) (Host.divf (broadcastInDim S1x1 ![1] bcast_S1_S1x1_1 (Host.reduceAdd (mulf (res_main_call3_v5 V0) (res_main_call3_v5 V0)) (constant S_ .f32 0x00000000#32) reducesTo_S2304x1_S1_d0 h_S_)) (broadcastInDim S1x1 ![] bcast_S_S1x1 (res_main_call3_v8 V0))) (broadcastInDim S1x1 ![] bcast_S_S1x1 (id (constant S_ .f32 0x7FC00000#32)))) (broadcastInDim S1x1 ![] bcast_S_S1x1 (constant S_ .f32 0x3727C5AC#32)))))) (broadcastInDim S2304x1 ![0, 1] bcast_S1x1_S2304x1_0_1 (broadcastInDim S1x1 ![1] bcast_S1_S1x1_1 (V0 (Proc.devRef .tc main_arg7))))))))) shapeCasts_S2304x1_S48x48

/-- The reference's result from its layer. -/
theorem outcome_layer (p g : Fin 48) : (outcome V0 (ix2 p g) : EReal)
    = outR (fun q => (res_main_v43 V0 (ix2 q (0 : Fin 1)) : EReal)) (V0 (Proc.devRef .tc main_arg6) (ix1 (0 : Fin 1)))
        (V0 (Proc.devRef .tc main_arg7) (ix1 (0 : Fin 1))) (Ideal.ofBits .f32 0x3727C5AC#32) (pair p g) := by
  unfold outcome res_main_call3_v5 res_main_call3_v8
  pointwise
  rw [pairs_sub, bits_pairs, if_pos pairs_pos]
  rfl

/-- The reference's result at probe `p`, gallery image `g`. -/
theorem outcome_at (p g : Fin 48) : (outcome V0 (ix2 p g) : EReal)
    = outR (zR (fun s => (V0 (Proc.devRef .tc main_arg4) (ix2 (0 : Fin 1) s) : EReal)) (V0 (Proc.devRef .tc main_arg2) (ix1 (0 : Fin 1)))
        (V0 (Proc.devRef .tc main_arg3) (ix1 (0 : Fin 1))) (V0 (Proc.devRef .tc main_arg5) (ix1 (0 : Fin 1))) (Ideal.ofBits .f32 0x3727C5AC#32)
        (rows (top1 (probe V0) (gallery V0)) (top2 (probe V0) (gallery V0))))
        (V0 (Proc.devRef .tc main_arg6) (ix1 (0 : Fin 1))) (V0 (Proc.devRef .tc main_arg7) (ix1 (0 : Fin 1))) (Ideal.ofBits .f32 0x3727C5AC#32) (pair p g) := by
  refine (outcome_layer V0 p g).trans ?_
  rw [← v16_rows]
  exact congrArg (fun f => outR f _ _ _ (pair p g)) (funext fun q => v43_at V0 q 0)

end Cert.ReferenceIdeal.Hand

end
-- ==== Proof.Equal.lean ====
/- The idealized kernel's result is the reference's, wherever the inputs named by `finite_inputs` are real. -/
module

public import proofs.«01_k».proof.Defs
public import proofs.«01_k».proof.Proof.Flat
public import proofs.«01_k».proof.Proof.KOut
public import proofs.«01_k».proof.Proof.ROut

@[expose] public section

set_option maxRecDepth 16384

noncomputable section

namespace Cert.Hand

open Idealize.ShloMosaic Idealize.ShloMosaic.TcCoe Idealize.SL.Sem

/-- A value whose magnitude compares below plus infinity is real. -/
theorem real_of_lt (x : EReal) (h : Ideal.cmp .olt (max x (-x)) (Ideal.ofBits .f32 0x7F800000#32) = 1#1) : IsReal x := by
  rw [bits_inf] at h
  unfold Ideal.cmp at h
  induction x using EReal.rec with
  | bot => simp at h
  | top => simp at h
  | coe r => exact ⟨r, rfl⟩

/-- The arguments `finite_inputs` speaks of are real at every index: the first normalisation's shift and the layer's weights. -/
theorem pre_real (hP : Cert.Pre_finite_inputs.Facts)
    (m : (ℓ : Loc Cert.KernelIdeal.nD Cert.KernelIdeal.τ Cert.KernelIdeal.sig) → Buf (Elt Ideal) ℓ)
    (h : Cert.Pre_KernelIdeal_finite_inputs m) (c : Dev Cert.KernelIdeal.nD) :
    IsReal (m ((c.tc : Thread Cert.KernelIdeal.nD Cert.KernelIdeal.τ).loc Cert.KernelIdeal.main_arg3) (ix1 (0 : Fin 1)))
      ∧ ∀ s : Fin 256, IsReal (m ((c.tc : Thread Cert.KernelIdeal.nD Cert.KernelIdeal.τ).loc Cert.KernelIdeal.main_arg4) (ix2 (0 : Fin 1) s)) := by
  obtain ⟨h3, h4⟩ := h c
  exact ⟨real_of_lt _ (congrFun h3 _), fun s => real_of_lt _ (congrFun h4 _)⟩

/-- From equal arguments, real where `finite_inputs` says so, the two programs' results are equal. -/
theorem result_eq (hP : Cert.Pre_finite_inputs.Facts)
    (m : (ℓ : Loc Cert.KernelIdeal.nD Cert.KernelIdeal.τ Cert.KernelIdeal.sig) → Buf (Elt Ideal) ℓ)
    (h : Cert.Pre_KernelIdeal_finite_inputs m) (c : Dev Cert.KernelIdeal.nD)
    (V0 : Valuation Cert.ReferenceIdeal.τ Cert.ReferenceIdeal.sig (Elt Ideal))
    (h0 : V0 (Proc.devRef .tc Cert.ReferenceIdeal.main_arg0) = m ((c.tc : Thread Cert.KernelIdeal.nD Cert.KernelIdeal.τ).loc Cert.KernelIdeal.main_arg0))
    (h1 : V0 (Proc.devRef .tc Cert.ReferenceIdeal.main_arg1) = m ((c.tc : Thread Cert.KernelIdeal.nD Cert.KernelIdeal.τ).loc Cert.KernelIdeal.main_arg1))
    (h2 : V0 (Proc.devRef .tc Cert.ReferenceIdeal.main_arg2) = m ((c.tc : Thread Cert.KernelIdeal.nD Cert.KernelIdeal.τ).loc Cert.KernelIdeal.main_arg2))
    (h3 : V0 (Proc.devRef .tc Cert.ReferenceIdeal.main_arg3) = m ((c.tc : Thread Cert.KernelIdeal.nD Cert.KernelIdeal.τ).loc Cert.KernelIdeal.main_arg3))
    (h4 : V0 (Proc.devRef .tc Cert.ReferenceIdeal.main_arg4) = m ((c.tc : Thread Cert.KernelIdeal.nD Cert.KernelIdeal.τ).loc Cert.KernelIdeal.main_arg4))
    (h5 : V0 (Proc.devRef .tc Cert.ReferenceIdeal.main_arg5) = m ((c.tc : Thread Cert.KernelIdeal.nD Cert.KernelIdeal.τ).loc Cert.KernelIdeal.main_arg5))
    (h6 : V0 (Proc.devRef .tc Cert.ReferenceIdeal.main_arg6) = m ((c.tc : Thread Cert.KernelIdeal.nD Cert.KernelIdeal.τ).loc Cert.KernelIdeal.main_arg6))
    (h7 : V0 (Proc.devRef .tc Cert.ReferenceIdeal.main_arg7) = m ((c.tc : Thread Cert.KernelIdeal.nD Cert.KernelIdeal.τ).loc Cert.KernelIdeal.main_arg7)) :
    Cert.ReferenceIdeal.Hand.outcome V0 = Cert.KernelIdeal.Hand.result m c Cert.KernelIdeal.Hand.tLast := by
  obtain ⟨r3, r4⟩ := pre_real hP m h c
  have eP : Cert.ReferenceIdeal.Hand.probe V0 = Cert.KernelIdeal.Hand.probe m c := congrArg Cert.ReferenceIdeal.Hand.feat h0
  have eG : Cert.ReferenceIdeal.Hand.gallery V0 = Cert.KernelIdeal.Hand.gallery m c := congrArg Cert.ReferenceIdeal.Hand.feat h1
  funext i
  obtain ⟨p, g, rfl⟩ : ∃ p g : Fin 48, i = ix2 p g := ⟨i 0, i 1, by funext a; fin_cases a <;> rfl⟩
  refine (Cert.ReferenceIdeal.Hand.outcome_at V0 p g).trans (Eq.symm ((Cert.KernelIdeal.Hand.result_at m c p g).trans ?_))
  rw [eP, eG, h2, h3, h4, h5, h6, h7]
  exact out_layer _ _ _ _ _ _ _ _ _ r4 r3 bits_eps p g

end Cert.Hand

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.KText
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Kernel

/-- The side conditions of the precondition's two broadcasts. -/
theorem pre_facts : Cert.Pre_finite_inputs.Facts where
  bcast_S_S1 := by decide
  bcast_S_S1x256 := by decide

/-- The idealized kernel runs, leaves its arguments unchanged and every semaphore counter at zero. -/
theorem frame_kernelIdeal : Cert.quiescent_KernelIdeal (hKernelIdeal := Cert.KernelIdeal.Gen.facts) := fun m ρ _ =>
  Cert.Hand.frame_any m ρ

/-- The reference runs and leaves its arguments unchanged; it declares no semaphore. -/
theorem frame_referenceIdeal : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

/-- From equal arguments satisfying `finite_inputs`, the idealized kernel and the reference end with the same result, arguments unchanged. -/
theorem same_result : Cert.algebraic_KernelIdeal_ReferenceIdeal_pre_finite_inputs (hKernelIdeal := Cert.KernelIdeal.Gen.facts)
    (hReferenceIdeal := Cert.ReferenceIdeal.Gen.facts) (hPre_finite_inputs := pre_facts) := fun m g m' g' hpre hargs =>
  ⟨fun c => Cert.KernelIdeal.Hand.result m c Cert.KernelIdeal.Hand.tLast,
    (θ_run _ _ _).mono (fun _ h c => ⟨((h.1.1 c).1 5).trans (Cert.KernelIdeal.Hand.final m c), h.2 c⟩)
      (θ_run_and (Cert.KernelIdeal.Hand.run_main m g)
        (Cert.KernelIdeal.Gen.frame_of m g (Cert.KernelIdeal.Hand.dats m) (Cert.KernelIdeal.Hand.A_eq m)
          ((θ_run _ _ _).mono (fun _ h => h.1) (Cert.KernelIdeal.Hand.run_main m g)))),
    (θ_run _ _ _).mono (fun _ h c => by
      obtain ⟨a0, a1, a2, a3, a4, a5, a6, a7⟩ := hargs c
      exact ⟨(h c).1.trans (Cert.Hand.result_eq pre_facts m hpre c _ a0 a1 a2 a3 a4 a5 a6 a7), (h c).2⟩)
      (Cert.ReferenceIdeal.Value.run m' g')⟩

/-- The claim of this certificate. -/
theorem claim : Cert.Claim := ⟨Cert.Kernel.Gen.facts, Cert.KernelIdeal.Gen.facts, Cert.ReferenceIdeal.Gen.facts, pre_facts,
  Cert.Hand.frame_kernel,
  frame_kernelIdeal,
  fun m ρ _ => frame_kernelIdeal m ρ trivial,
  frame_referenceIdeal,
  fun m ρ _ => frame_referenceIdeal m ρ trivial,
  trivial,
  same_result⟩

end Cert.Proof

end
